-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S4096x128 : Shape := ⟨2, ![4096, 128]⟩
abbrev S2x4096x512 : Shape := ⟨3, ![2, 4096, 512]⟩
abbrev S4x256x512 : Shape := ⟨3, ![4, 256, 512]⟩
abbrev S16x256x128 : Shape := ⟨3, ![16, 256, 128]⟩
abbrev S2 : Shape := ⟨1, ![2]⟩
abbrev S16 : Shape := ⟨1, ![16]⟩
abbrev S1 : Shape := ⟨1, ![1]⟩
abbrev S_ : Shape := ⟨0, ![]⟩
abbrev S1x4096x512 : Shape := ⟨3, ![1, 4096, 512]⟩
abbrev S4096x512 : Shape := ⟨2, ![4096, 512]⟩
abbrev S4096x256 : Shape := ⟨2, ![4096, 256]⟩
abbrev S256x256 : Shape := ⟨2, ![256, 256]⟩
abbrev S1x256x256 : Shape := ⟨3, ![1, 256, 256]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S4096x2048, .bf16⟩
  | .hbm, ⟨2, _⟩ => ⟨S4096x128, .f32⟩
  | .local _ .vmem, ⟨0, _⟩ => ⟨S256x4096, .bf16⟩
  | .local _ .vmem, ⟨1, _⟩ => ⟨S4096x128, .f32⟩
  | .local _ .vmem, ⟨2, _⟩ => ⟨S2x4096x512, .bf16⟩
  | .local _ .vmem, ⟨3, _⟩ => ⟨S4x256x512, .bf16⟩
  | .local _ .vmem, ⟨4, _⟩ => ⟨S16x256x128, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32_11 : BitVec 32) : Fin 2 → Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.addi v19 c0_i32_11
  let c4_i32_12 : BitVec 32 := 4#32
  let c0_i32_13 : BitVec 32 := 0#32
  let v31 : BitVec 1 := Scalar.cmpi .eq c4_i32_12 c0_i32_13
  let c1_i32_14 : BitVec 32 := 1#32
  let v32 : BitVec 32 := Scalar.select v31 c1_i32_14 c4_i32_12
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c512_i32 : BitVec 32 := 512#32
  let v41 : BitVec 32 := Scalar.muli v40 c512_i32
  ![0, v41.toNat]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_23 : BitVec 32 := 0#32
  let v48 : BitVec 1 := Scalar.cmpi .ne v2 c0_i32_23
  let v49 : BitVec 32 := Scalar.extui v48
  let c0_i32_24 : BitVec 32 := 0#32
  let v50 : BitVec 1 := Scalar.cmpi .ne v49 c0_i32_24
  v50

def k0_dev1 : Nat :=
  let c0_i32_1144 : BitVec 32 := 0#32
  let c0_i32_1142 : BitVec 32 := 0#32
  let c1_i32_1143 : BitVec 32 := 1#32
  let v1605 : BitVec 32 := Scalar.muli c0_i32_1142 c1_i32_1143
  let v1606 : BitVec 32 := Scalar.addi c0_i32_1144 v1605
  v1606.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_25 : BitVec 32 := 1#32
  let v51 : BitVec 1 := Scalar.cmpi .ne v2 c1_i32_25
  let v52 : BitVec 32 := Scalar.extui v51
  let c0_i32_26 : BitVec 32 := 0#32
  let v53 : BitVec 1 := Scalar.cmpi .ne v52 c0_i32_26
  v53

def k0_dev2 : Nat :=
  let c0_i32_1144 : BitVec 32 := 0#32
  let c1_i32_1142 : BitVec 32 := 1#32
  let c1_i32_1143 : BitVec 32 := 1#32
  let v1605 : BitVec 32 := Scalar.muli c1_i32_1142 c1_i32_1143
  let v1606 : BitVec 32 := Scalar.addi c0_i32_1144 v1605
  v1606.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v54 : BitVec 1 := Scalar.cmpi .ne v2 c2_i32
  let v55 : BitVec 32 := Scalar.extui v54
  let c0_i32_27 : BitVec 32 := 0#32
  let v56 : BitVec 1 := Scalar.cmpi .ne v55 c0_i32_27
  v56

def k0_dev3 : Nat :=
  let c0_i32_1144 : BitVec 32 := 0#32
  let c2_i32_1142 : BitVec 32 := 2#32
  let c1_i32_1143 : BitVec 32 := 1#32
  let v1605 : BitVec 32 := Scalar.muli c2_i32_1142 c1_i32_1143
  let v1606 : BitVec 32 := Scalar.addi c0_i32_1144 v1605
  v1606.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v57 : BitVec 1 := Scalar.cmpi .ne v2 c3_i32
  let v58 : BitVec 32 := Scalar.extui v57
  let c0_i32_28 : BitVec 32 := 0#32
  let v59 : BitVec 1 := Scalar.cmpi .ne v58 c0_i32_28
  v59

def k0_dev4 : Nat :=
  let c0_i32_1144 : BitVec 32 := 0#32
  let c3_i32_1142 : BitVec 32 := 3#32
  let c1_i32_1143 : BitVec 32 := 1#32
  let v1605 : BitVec 32 := Scalar.muli c3_i32_1142 c1_i32_1143
  let v1606 : BitVec 32 := Scalar.addi c0_i32_1144 v1605
  v1606.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_29 : BitVec 32 := 4#32
  let v60 : BitVec 1 := Scalar.cmpi .ne v2 c4_i32_29
  let v61 : BitVec 32 := Scalar.extui v60
  let c0_i32_30 : BitVec 32 := 0#32
  let v62 : BitVec 1 := Scalar.cmpi .ne v61 c0_i32_30
  v62

def k0_dev5 : Nat :=
  let c0_i32_1144 : BitVec 32 := 0#32
  let c4_i32_1142 : BitVec 32 := 4#32
  let c1_i32_1143 : BitVec 32 := 1#32
  let v1605 : BitVec 32 := Scalar.muli c4_i32_1142 c1_i32_1143
  let v1606 : BitVec 32 := Scalar.addi c0_i32_1144 v1605
  v1606.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v63 : BitVec 1 := Scalar.cmpi .ne v2 c5_i32
  let v64 : BitVec 32 := Scalar.extui v63
  let c0_i32_31 : BitVec 32 := 0#32
  let v65 : BitVec 1 := Scalar.cmpi .ne v64 c0_i32_31
  v65

def k0_dev6 : Nat :=
  let c0_i32_1144 : BitVec 32 := 0#32
  let c5_i32_1142 : BitVec 32 := 5#32
  let c1_i32_1143 : BitVec 32 := 1#32
  let v1605 : BitVec 32 := Scalar.muli c5_i32_1142 c1_i32_1143
  let v1606 : BitVec 32 := Scalar.addi c0_i32_1144 v1605
  v1606.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v66 : BitVec 1 := Scalar.cmpi .ne v2 c6_i32
  let v67 : BitVec 32 := Scalar.extui v66
  let c0_i32_32 : BitVec 32 := 0#32
  let v68 : BitVec 1 := Scalar.cmpi .ne v67 c0_i32_32
  v68

def k0_dev7 : Nat :=
  let c0_i32_1144 : BitVec 32 := 0#32
  let c6_i32_1142 : BitVec 32 := 6#32
  let c1_i32_1143 : BitVec 32 := 1#32
  let v1605 : BitVec 32 := Scalar.muli c6_i32_1142 c1_i32_1143
  let v1606 : BitVec 32 := Scalar.addi c0_i32_1144 v1605
  v1606.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v69 : BitVec 1 := Scalar.cmpi .ne v2 c7_i32
  let v70 : BitVec 32 := Scalar.extui v69
  let c0_i32_33 : BitVec 32 := 0#32
  let v71 : BitVec 1 := Scalar.cmpi .ne v70 c0_i32_33
  v71

def k0_dev8 : Nat :=
  let c0_i32_1144 : BitVec 32 := 0#32
  let c7_i32_1142 : BitVec 32 := 7#32
  let c1_i32_1143 : BitVec 32 := 1#32
  let v1605 : BitVec 32 := Scalar.muli c7_i32_1142 c1_i32_1143
  let v1606 : BitVec 32 := Scalar.addi c0_i32_1144 v1605
  v1606.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v72 : BitVec 1 := Scalar.cmpi .ne v2 c8_i32
  let v73 : BitVec 32 := Scalar.extui v72
  let c0_i32_34 : BitVec 32 := 0#32
  let v74 : BitVec 1 := Scalar.cmpi .ne v73 c0_i32_34
  v74

def k0_dev9 : Nat :=
  let c0_i32_1144 : BitVec 32 := 0#32
  let c8_i32_1142 : BitVec 32 := 8#32
  let c1_i32_1143 : BitVec 32 := 1#32
  let v1605 : BitVec 32 := Scalar.muli c8_i32_1142 c1_i32_1143
  let v1606 : BitVec 32 := Scalar.addi c0_i32_1144 v1605
  v1606.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v75 : BitVec 1 := Scalar.cmpi .ne v2 c9_i32
  let v76 : BitVec 32 := Scalar.extui v75
  let c0_i32_35 : BitVec 32 := 0#32
  let v77 : BitVec 1 := Scalar.cmpi .ne v76 c0_i32_35
  v77

def k0_dev10 : Nat :=
  let c0_i32_1144 : BitVec 32 := 0#32
  let c9_i32_1142 : BitVec 32 := 9#32
  let c1_i32_1143 : BitVec 32 := 1#32
  let v1605 : BitVec 32 := Scalar.muli c9_i32_1142 c1_i32_1143
  let v1606 : BitVec 32 := Scalar.addi c0_i32_1144 v1605
  v1606.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v78 : BitVec 1 := Scalar.cmpi .ne v2 c10_i32
  let v79 : BitVec 32 := Scalar.extui v78
  let c0_i32_36 : BitVec 32 := 0#32
  let v80 : BitVec 1 := Scalar.cmpi .ne v79 c0_i32_36
  v80

def k0_dev11 : Nat :=
  let c0_i32_1144 : BitVec 32 := 0#32
  let c10_i32_1142 : BitVec 32 := 10#32
  let c1_i32_1143 : BitVec 32 := 1#32
  let v1605 : BitVec 32 := Scalar.muli c10_i32_1142 c1_i32_1143
  let v1606 : BitVec 32 := Scalar.addi c0_i32_1144 v1605
  v1606.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v81 : BitVec 1 := Scalar.cmpi .ne v2 c11_i32
  let v82 : BitVec 32 := Scalar.extui v81
  let c0_i32_37 : BitVec 32 := 0#32
  let v83 : BitVec 1 := Scalar.cmpi .ne v82 c0_i32_37
  v83

def k0_dev12 : Nat :=
  let c0_i32_1144 : BitVec 32 := 0#32
  let c11_i32_1142 : BitVec 32 := 11#32
  let c1_i32_1143 : BitVec 32 := 1#32
  let v1605 : BitVec 32 := Scalar.muli c11_i32_1142 c1_i32_1143
  let v1606 : BitVec 32 := Scalar.addi c0_i32_1144 v1605
  v1606.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v84 : BitVec 1 := Scalar.cmpi .ne v2 c12_i32
  let v85 : BitVec 32 := Scalar.extui v84
  let c0_i32_38 : BitVec 32 := 0#32
  let v86 : BitVec 1 := Scalar.cmpi .ne v85 c0_i32_38
  v86

def k0_dev13 : Nat :=
  let c0_i32_1144 : BitVec 32 := 0#32
  let c12_i32_1142 : BitVec 32 := 12#32
  let c1_i32_1143 : BitVec 32 := 1#32
  let v1605 : BitVec 32 := Scalar.muli c12_i32_1142 c1_i32_1143
  let v1606 : BitVec 32 := Scalar.addi c0_i32_1144 v1605
  v1606.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v87 : BitVec 1 := Scalar.cmpi .ne v2 c13_i32
  let v88 : BitVec 32 := Scalar.extui v87
  let c0_i32_39 : BitVec 32 := 0#32
  let v89 : BitVec 1 := Scalar.cmpi .ne v88 c0_i32_39
  v89

def k0_dev14 : Nat :=
  let c0_i32_1144 : BitVec 32 := 0#32
  let c13_i32_1142 : BitVec 32 := 13#32
  let c1_i32_1143 : BitVec 32 := 1#32
  let v1605 : BitVec 32 := Scalar.muli c13_i32_1142 c1_i32_1143
  let v1606 : BitVec 32 := Scalar.addi c0_i32_1144 v1605
  v1606.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v90 : BitVec 1 := Scalar.cmpi .ne v2 c14_i32
  let v91 : BitVec 32 := Scalar.extui v90
  let c0_i32_40 : BitVec 32 := 0#32
  let v92 : BitVec 1 := Scalar.cmpi .ne v91 c0_i32_40
  v92

def k0_dev15 : Nat :=
  let c0_i32_1144 : BitVec 32 := 0#32
  let c14_i32_1142 : BitVec 32 := 14#32
  let c1_i32_1143 : BitVec 32 := 1#32
  let v1605 : BitVec 32 := Scalar.muli c14_i32_1142 c1_i32_1143
  let v1606 : BitVec 32 := Scalar.addi c0_i32_1144 v1605
  v1606.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v93 : BitVec 1 := Scalar.cmpi .ne v2 c15_i32
  let v94 : BitVec 32 := Scalar.extui v93
  let c0_i32_41 : BitVec 32 := 0#32
  let v95 : BitVec 1 := Scalar.cmpi .ne v94 c0_i32_41
  v95

def k0_dev16 : Nat :=
  let c0_i32_1144 : BitVec 32 := 0#32
  let c15_i32_1142 : BitVec 32 := 15#32
  let c1_i32_1143 : BitVec 32 := 1#32
  let v1605 : BitVec 32 := Scalar.muli c15_i32_1142 c1_i32_1143
  let v1606 : BitVec 32 := Scalar.addi c0_i32_1144 v1605
  v1606.toNat
def k0_off2 (d0 : Dev nD) (c0_i32_96 : BitVec 32) (c0_i32_89 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v166 : BitVec 32 := Scalar.subi c0_i32_89 v29
  let c4_i32_90 : BitVec 32 := 4#32
  let c0_i32_91 : BitVec 32 := 0#32
  let v167 : BitVec 1 := Scalar.cmpi .eq c4_i32_90 c0_i32_91
  let c1_i32_92 : BitVec 32 := 1#32
  let v168 : BitVec 32 := Scalar.select v167 c1_i32_92 c4_i32_90
  let v169 : BitVec 32 := Scalar.remsi v166 v168
  let c0_i32_94 : BitVec 32 := 0#32
  let v171 : BitVec 1 := Scalar.cmpi .slt v169 c0_i32_94
  let c0_i32_95 : BitVec 32 := 0#32
  let v172 : BitVec 1 := Scalar.cmpi .slt v168 c0_i32_95
  let v173 : BitVec 1 := Scalar.xori v171 v172
  let c0_i32_93 : BitVec 32 := 0#32
  let v170 : BitVec 1 := Scalar.cmpi .ne v169 c0_i32_93
  let v174 : BitVec 1 := Scalar.andi v173 v170
  let v175 : BitVec 32 := Scalar.addi v169 v168
  let v176 : BitVec 32 := Scalar.select v174 v175 v169
  let v177 : BitVec 32 := Scalar.addi c0_i32_96 v176
  ![v177.toNat]
def k0_off3 (d0 : Dev nD) (c0_i32_96 : BitVec 32) (c0_i32_89 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v166 : BitVec 32 := Scalar.subi c0_i32_89 v29
  let c4_i32_90 : BitVec 32 := 4#32
  let c0_i32_91 : BitVec 32 := 0#32
  let v167 : BitVec 1 := Scalar.cmpi .eq c4_i32_90 c0_i32_91
  let c1_i32_92 : BitVec 32 := 1#32
  let v168 : BitVec 32 := Scalar.select v167 c1_i32_92 c4_i32_90
  let v169 : BitVec 32 := Scalar.remsi v166 v168
  let c0_i32_94 : BitVec 32 := 0#32
  let v171 : BitVec 1 := Scalar.cmpi .slt v169 c0_i32_94
  let c0_i32_95 : BitVec 32 := 0#32
  let v172 : BitVec 1 := Scalar.cmpi .slt v168 c0_i32_95
  let v173 : BitVec 1 := Scalar.xori v171 v172
  let c0_i32_93 : BitVec 32 := 0#32
  let v170 : BitVec 1 := Scalar.cmpi .ne v169 c0_i32_93
  let v174 : BitVec 1 := Scalar.andi v173 v170
  let v175 : BitVec 32 := Scalar.addi v169 v168
  let v176 : BitVec 32 := Scalar.select v174 v175 v169
  let v177 : BitVec 32 := Scalar.addi c0_i32_96 v176
  let c0_i32_100 : BitVec 32 := 0#32
  let c0_i32_101 : BitVec 32 := 0#32
  ![v177.toNat, 0, 0]
def k0_dev17 (d0 : Dev nD) : Nat :=
  let c0_i32_99 : BitVec 32 := 0#32
  let c4_i32_87 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_80 : BitVec 32 := 0#32
  let v153 : BitVec 32 := Scalar.addi v19 c0_i32_80
  let c4_i32_81 : BitVec 32 := 4#32
  let c0_i32_82 : BitVec 32 := 0#32
  let v154 : BitVec 1 := Scalar.cmpi .eq c4_i32_81 c0_i32_82
  let c1_i32_83 : BitVec 32 := 1#32
  let v155 : BitVec 32 := Scalar.select v154 c1_i32_83 c4_i32_81
  let v156 : BitVec 32 := Scalar.remsi v153 v155
  let c0_i32_85 : BitVec 32 := 0#32
  let v158 : BitVec 1 := Scalar.cmpi .slt v156 c0_i32_85
  let c0_i32_86 : BitVec 32 := 0#32
  let v159 : BitVec 1 := Scalar.cmpi .slt v155 c0_i32_86
  let v160 : BitVec 1 := Scalar.xori v158 v159
  let c0_i32_84 : BitVec 32 := 0#32
  let v157 : BitVec 1 := Scalar.cmpi .ne v156 c0_i32_84
  let v161 : BitVec 1 := Scalar.andi v160 v157
  let v162 : BitVec 32 := Scalar.addi v156 v155
  let v163 : BitVec 32 := Scalar.select v161 v162 v156
  let v164 : BitVec 32 := Scalar.muli c4_i32_87 v163
  let c0_i32_88 : BitVec 32 := 0#32
  let v165 : BitVec 32 := Scalar.addi v164 c0_i32_88
  let c1_i32_98 : BitVec 32 := 1#32
  let v178 : BitVec 32 := Scalar.muli v165 c1_i32_98
  let v179 : BitVec 32 := Scalar.addi c0_i32_99 v178
  v179.toNat
def k0_dev18 (d0 : Dev nD) : Nat :=
  let c0_i32_123 : BitVec 32 := 0#32
  let c4_i32_111 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_104 : BitVec 32 := 0#32
  let v188 : BitVec 32 := Scalar.addi v19 c0_i32_104
  let c4_i32_105 : BitVec 32 := 4#32
  let c0_i32_106 : BitVec 32 := 0#32
  let v189 : BitVec 1 := Scalar.cmpi .eq c4_i32_105 c0_i32_106
  let c1_i32_107 : BitVec 32 := 1#32
  let v190 : BitVec 32 := Scalar.select v189 c1_i32_107 c4_i32_105
  let v191 : BitVec 32 := Scalar.remsi v188 v190
  let c0_i32_109 : BitVec 32 := 0#32
  let v193 : BitVec 1 := Scalar.cmpi .slt v191 c0_i32_109
  let c0_i32_110 : BitVec 32 := 0#32
  let v194 : BitVec 1 := Scalar.cmpi .slt v190 c0_i32_110
  let v195 : BitVec 1 := Scalar.xori v193 v194
  let c0_i32_108 : BitVec 32 := 0#32
  let v192 : BitVec 1 := Scalar.cmpi .ne v191 c0_i32_108
  let v196 : BitVec 1 := Scalar.andi v195 v192
  let v197 : BitVec 32 := Scalar.addi v191 v190
  let v198 : BitVec 32 := Scalar.select v196 v197 v191
  let v199 : BitVec 32 := Scalar.muli c4_i32_111 v198
  let c1_i32_112 : BitVec 32 := 1#32
  let v200 : BitVec 32 := Scalar.addi v199 c1_i32_112
  let c1_i32_122 : BitVec 32 := 1#32
  let v213 : BitVec 32 := Scalar.muli v200 c1_i32_122
  let v214 : BitVec 32 := Scalar.addi c0_i32_123 v213
  v214.toNat
def k0_dev19 (d0 : Dev nD) : Nat :=
  let c0_i32_156 : BitVec 32 := 0#32
  let c4_i32_144 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_137 : BitVec 32 := 0#32
  let v244 : BitVec 32 := Scalar.addi v19 c0_i32_137
  let c4_i32_138 : BitVec 32 := 4#32
  let c0_i32_139 : BitVec 32 := 0#32
  let v245 : BitVec 1 := Scalar.cmpi .eq c4_i32_138 c0_i32_139
  let c1_i32_140 : BitVec 32 := 1#32
  let v246 : BitVec 32 := Scalar.select v245 c1_i32_140 c4_i32_138
  let v247 : BitVec 32 := Scalar.remsi v244 v246
  let c0_i32_142 : BitVec 32 := 0#32
  let v249 : BitVec 1 := Scalar.cmpi .slt v247 c0_i32_142
  let c0_i32_143 : BitVec 32 := 0#32
  let v250 : BitVec 1 := Scalar.cmpi .slt v246 c0_i32_143
  let v251 : BitVec 1 := Scalar.xori v249 v250
  let c0_i32_141 : BitVec 32 := 0#32
  let v248 : BitVec 1 := Scalar.cmpi .ne v247 c0_i32_141
  let v252 : BitVec 1 := Scalar.andi v251 v248
  let v253 : BitVec 32 := Scalar.addi v247 v246
  let v254 : BitVec 32 := Scalar.select v252 v253 v247
  let v255 : BitVec 32 := Scalar.muli c4_i32_144 v254
  let c2_i32_145 : BitVec 32 := 2#32
  let v256 : BitVec 32 := Scalar.addi v255 c2_i32_145
  let c1_i32_155 : BitVec 32 := 1#32
  let v269 : BitVec 32 := Scalar.muli v256 c1_i32_155
  let v270 : BitVec 32 := Scalar.addi c0_i32_156 v269
  v270.toNat
def k0_dev20 (d0 : Dev nD) : Nat :=
  let c0_i32_179 : BitVec 32 := 0#32
  let c4_i32_167 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_160 : BitVec 32 := 0#32
  let v279 : BitVec 32 := Scalar.addi v19 c0_i32_160
  let c4_i32_161 : BitVec 32 := 4#32
  let c0_i32_162 : BitVec 32 := 0#32
  let v280 : BitVec 1 := Scalar.cmpi .eq c4_i32_161 c0_i32_162
  let c1_i32_163 : BitVec 32 := 1#32
  let v281 : BitVec 32 := Scalar.select v280 c1_i32_163 c4_i32_161
  let v282 : BitVec 32 := Scalar.remsi v279 v281
  let c0_i32_165 : BitVec 32 := 0#32
  let v284 : BitVec 1 := Scalar.cmpi .slt v282 c0_i32_165
  let c0_i32_166 : BitVec 32 := 0#32
  let v285 : BitVec 1 := Scalar.cmpi .slt v281 c0_i32_166
  let v286 : BitVec 1 := Scalar.xori v284 v285
  let c0_i32_164 : BitVec 32 := 0#32
  let v283 : BitVec 1 := Scalar.cmpi .ne v282 c0_i32_164
  let v287 : BitVec 1 := Scalar.andi v286 v283
  let v288 : BitVec 32 := Scalar.addi v282 v281
  let v289 : BitVec 32 := Scalar.select v287 v288 v282
  let v290 : BitVec 32 := Scalar.muli c4_i32_167 v289
  let c3_i32_168 : BitVec 32 := 3#32
  let v291 : BitVec 32 := Scalar.addi v290 c3_i32_168
  let c1_i32_178 : BitVec 32 := 1#32
  let v304 : BitVec 32 := Scalar.muli v291 c1_i32_178
  let v305 : BitVec 32 := Scalar.addi c0_i32_179 v304
  v305.toNat
def k0_dev21 (d0 : Dev nD) : Nat :=
  let c0_i32_238 : BitVec 32 := 0#32
  let c4_i32_226 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_219 : BitVec 32 := 1#32
  let v368 : BitVec 32 := Scalar.addi v19 c1_i32_219
  let c4_i32_220 : BitVec 32 := 4#32
  let c0_i32_221 : BitVec 32 := 0#32
  let v369 : BitVec 1 := Scalar.cmpi .eq c4_i32_220 c0_i32_221
  let c1_i32_222 : BitVec 32 := 1#32
  let v370 : BitVec 32 := Scalar.select v369 c1_i32_222 c4_i32_220
  let v371 : BitVec 32 := Scalar.remsi v368 v370
  let c0_i32_224 : BitVec 32 := 0#32
  let v373 : BitVec 1 := Scalar.cmpi .slt v371 c0_i32_224
  let c0_i32_225 : BitVec 32 := 0#32
  let v374 : BitVec 1 := Scalar.cmpi .slt v370 c0_i32_225
  let v375 : BitVec 1 := Scalar.xori v373 v374
  let c0_i32_223 : BitVec 32 := 0#32
  let v372 : BitVec 1 := Scalar.cmpi .ne v371 c0_i32_223
  let v376 : BitVec 1 := Scalar.andi v375 v372
  let v377 : BitVec 32 := Scalar.addi v371 v370
  let v378 : BitVec 32 := Scalar.select v376 v377 v371
  let v379 : BitVec 32 := Scalar.muli c4_i32_226 v378
  let c0_i32_227 : BitVec 32 := 0#32
  let v380 : BitVec 32 := Scalar.addi v379 c0_i32_227
  let c1_i32_237 : BitVec 32 := 1#32
  let v393 : BitVec 32 := Scalar.muli v380 c1_i32_237
  let v394 : BitVec 32 := Scalar.addi c0_i32_238 v393
  v394.toNat
def k0_dev22 (d0 : Dev nD) : Nat :=
  let c0_i32_262 : BitVec 32 := 0#32
  let c4_i32_250 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_243 : BitVec 32 := 1#32
  let v403 : BitVec 32 := Scalar.addi v19 c1_i32_243
  let c4_i32_244 : BitVec 32 := 4#32
  let c0_i32_245 : BitVec 32 := 0#32
  let v404 : BitVec 1 := Scalar.cmpi .eq c4_i32_244 c0_i32_245
  let c1_i32_246 : BitVec 32 := 1#32
  let v405 : BitVec 32 := Scalar.select v404 c1_i32_246 c4_i32_244
  let v406 : BitVec 32 := Scalar.remsi v403 v405
  let c0_i32_248 : BitVec 32 := 0#32
  let v408 : BitVec 1 := Scalar.cmpi .slt v406 c0_i32_248
  let c0_i32_249 : BitVec 32 := 0#32
  let v409 : BitVec 1 := Scalar.cmpi .slt v405 c0_i32_249
  let v410 : BitVec 1 := Scalar.xori v408 v409
  let c0_i32_247 : BitVec 32 := 0#32
  let v407 : BitVec 1 := Scalar.cmpi .ne v406 c0_i32_247
  let v411 : BitVec 1 := Scalar.andi v410 v407
  let v412 : BitVec 32 := Scalar.addi v406 v405
  let v413 : BitVec 32 := Scalar.select v411 v412 v406
  let v414 : BitVec 32 := Scalar.muli c4_i32_250 v413
  let c1_i32_251 : BitVec 32 := 1#32
  let v415 : BitVec 32 := Scalar.addi v414 c1_i32_251
  let c1_i32_261 : BitVec 32 := 1#32
  let v428 : BitVec 32 := Scalar.muli v415 c1_i32_261
  let v429 : BitVec 32 := Scalar.addi c0_i32_262 v428
  v429.toNat
def k0_dev23 (d0 : Dev nD) : Nat :=
  let c0_i32_286 : BitVec 32 := 0#32
  let c4_i32_274 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_267 : BitVec 32 := 1#32
  let v438 : BitVec 32 := Scalar.addi v19 c1_i32_267
  let c4_i32_268 : BitVec 32 := 4#32
  let c0_i32_269 : BitVec 32 := 0#32
  let v439 : BitVec 1 := Scalar.cmpi .eq c4_i32_268 c0_i32_269
  let c1_i32_270 : BitVec 32 := 1#32
  let v440 : BitVec 32 := Scalar.select v439 c1_i32_270 c4_i32_268
  let v441 : BitVec 32 := Scalar.remsi v438 v440
  let c0_i32_272 : BitVec 32 := 0#32
  let v443 : BitVec 1 := Scalar.cmpi .slt v441 c0_i32_272
  let c0_i32_273 : BitVec 32 := 0#32
  let v444 : BitVec 1 := Scalar.cmpi .slt v440 c0_i32_273
  let v445 : BitVec 1 := Scalar.xori v443 v444
  let c0_i32_271 : BitVec 32 := 0#32
  let v442 : BitVec 1 := Scalar.cmpi .ne v441 c0_i32_271
  let v446 : BitVec 1 := Scalar.andi v445 v442
  let v447 : BitVec 32 := Scalar.addi v441 v440
  let v448 : BitVec 32 := Scalar.select v446 v447 v441
  let v449 : BitVec 32 := Scalar.muli c4_i32_274 v448
  let c2_i32_275 : BitVec 32 := 2#32
  let v450 : BitVec 32 := Scalar.addi v449 c2_i32_275
  let c1_i32_285 : BitVec 32 := 1#32
  let v463 : BitVec 32 := Scalar.muli v450 c1_i32_285
  let v464 : BitVec 32 := Scalar.addi c0_i32_286 v463
  v464.toNat
def k0_dev24 (d0 : Dev nD) : Nat :=
  let c0_i32_310 : BitVec 32 := 0#32
  let c4_i32_298 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_291 : BitVec 32 := 1#32
  let v473 : BitVec 32 := Scalar.addi v19 c1_i32_291
  let c4_i32_292 : BitVec 32 := 4#32
  let c0_i32_293 : BitVec 32 := 0#32
  let v474 : BitVec 1 := Scalar.cmpi .eq c4_i32_292 c0_i32_293
  let c1_i32_294 : BitVec 32 := 1#32
  let v475 : BitVec 32 := Scalar.select v474 c1_i32_294 c4_i32_292
  let v476 : BitVec 32 := Scalar.remsi v473 v475
  let c0_i32_296 : BitVec 32 := 0#32
  let v478 : BitVec 1 := Scalar.cmpi .slt v476 c0_i32_296
  let c0_i32_297 : BitVec 32 := 0#32
  let v479 : BitVec 1 := Scalar.cmpi .slt v475 c0_i32_297
  let v480 : BitVec 1 := Scalar.xori v478 v479
  let c0_i32_295 : BitVec 32 := 0#32
  let v477 : BitVec 1 := Scalar.cmpi .ne v476 c0_i32_295
  let v481 : BitVec 1 := Scalar.andi v480 v477
  let v482 : BitVec 32 := Scalar.addi v476 v475
  let v483 : BitVec 32 := Scalar.select v481 v482 v476
  let v484 : BitVec 32 := Scalar.muli c4_i32_298 v483
  let c3_i32_299 : BitVec 32 := 3#32
  let v485 : BitVec 32 := Scalar.addi v484 c3_i32_299
  let c1_i32_309 : BitVec 32 := 1#32
  let v498 : BitVec 32 := Scalar.muli v485 c1_i32_309
  let v499 : BitVec 32 := Scalar.addi c0_i32_310 v498
  v499.toNat
def k0_dev25 (d0 : Dev nD) : Nat :=
  let c0_i32_370 : BitVec 32 := 0#32
  let c4_i32_358 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_351 : BitVec 32 := 2#32
  let v562 : BitVec 32 := Scalar.addi v19 c2_i32_351
  let c4_i32_352 : BitVec 32 := 4#32
  let c0_i32_353 : BitVec 32 := 0#32
  let v563 : BitVec 1 := Scalar.cmpi .eq c4_i32_352 c0_i32_353
  let c1_i32_354 : BitVec 32 := 1#32
  let v564 : BitVec 32 := Scalar.select v563 c1_i32_354 c4_i32_352
  let v565 : BitVec 32 := Scalar.remsi v562 v564
  let c0_i32_356 : BitVec 32 := 0#32
  let v567 : BitVec 1 := Scalar.cmpi .slt v565 c0_i32_356
  let c0_i32_357 : BitVec 32 := 0#32
  let v568 : BitVec 1 := Scalar.cmpi .slt v564 c0_i32_357
  let v569 : BitVec 1 := Scalar.xori v567 v568
  let c0_i32_355 : BitVec 32 := 0#32
  let v566 : BitVec 1 := Scalar.cmpi .ne v565 c0_i32_355
  let v570 : BitVec 1 := Scalar.andi v569 v566
  let v571 : BitVec 32 := Scalar.addi v565 v564
  let v572 : BitVec 32 := Scalar.select v570 v571 v565
  let v573 : BitVec 32 := Scalar.muli c4_i32_358 v572
  let c0_i32_359 : BitVec 32 := 0#32
  let v574 : BitVec 32 := Scalar.addi v573 c0_i32_359
  let c1_i32_369 : BitVec 32 := 1#32
  let v587 : BitVec 32 := Scalar.muli v574 c1_i32_369
  let v588 : BitVec 32 := Scalar.addi c0_i32_370 v587
  v588.toNat
def k0_dev26 (d0 : Dev nD) : Nat :=
  let c0_i32_394 : BitVec 32 := 0#32
  let c4_i32_382 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_375 : BitVec 32 := 2#32
  let v597 : BitVec 32 := Scalar.addi v19 c2_i32_375
  let c4_i32_376 : BitVec 32 := 4#32
  let c0_i32_377 : BitVec 32 := 0#32
  let v598 : BitVec 1 := Scalar.cmpi .eq c4_i32_376 c0_i32_377
  let c1_i32_378 : BitVec 32 := 1#32
  let v599 : BitVec 32 := Scalar.select v598 c1_i32_378 c4_i32_376
  let v600 : BitVec 32 := Scalar.remsi v597 v599
  let c0_i32_380 : BitVec 32 := 0#32
  let v602 : BitVec 1 := Scalar.cmpi .slt v600 c0_i32_380
  let c0_i32_381 : BitVec 32 := 0#32
  let v603 : BitVec 1 := Scalar.cmpi .slt v599 c0_i32_381
  let v604 : BitVec 1 := Scalar.xori v602 v603
  let c0_i32_379 : BitVec 32 := 0#32
  let v601 : BitVec 1 := Scalar.cmpi .ne v600 c0_i32_379
  let v605 : BitVec 1 := Scalar.andi v604 v601
  let v606 : BitVec 32 := Scalar.addi v600 v599
  let v607 : BitVec 32 := Scalar.select v605 v606 v600
  let v608 : BitVec 32 := Scalar.muli c4_i32_382 v607
  let c1_i32_383 : BitVec 32 := 1#32
  let v609 : BitVec 32 := Scalar.addi v608 c1_i32_383
  let c1_i32_393 : BitVec 32 := 1#32
  let v622 : BitVec 32 := Scalar.muli v609 c1_i32_393
  let v623 : BitVec 32 := Scalar.addi c0_i32_394 v622
  v623.toNat
def k0_dev27 (d0 : Dev nD) : Nat :=
  let c0_i32_418 : BitVec 32 := 0#32
  let c4_i32_406 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_399 : BitVec 32 := 2#32
  let v632 : BitVec 32 := Scalar.addi v19 c2_i32_399
  let c4_i32_400 : BitVec 32 := 4#32
  let c0_i32_401 : BitVec 32 := 0#32
  let v633 : BitVec 1 := Scalar.cmpi .eq c4_i32_400 c0_i32_401
  let c1_i32_402 : BitVec 32 := 1#32
  let v634 : BitVec 32 := Scalar.select v633 c1_i32_402 c4_i32_400
  let v635 : BitVec 32 := Scalar.remsi v632 v634
  let c0_i32_404 : BitVec 32 := 0#32
  let v637 : BitVec 1 := Scalar.cmpi .slt v635 c0_i32_404
  let c0_i32_405 : BitVec 32 := 0#32
  let v638 : BitVec 1 := Scalar.cmpi .slt v634 c0_i32_405
  let v639 : BitVec 1 := Scalar.xori v637 v638
  let c0_i32_403 : BitVec 32 := 0#32
  let v636 : BitVec 1 := Scalar.cmpi .ne v635 c0_i32_403
  let v640 : BitVec 1 := Scalar.andi v639 v636
  let v641 : BitVec 32 := Scalar.addi v635 v634
  let v642 : BitVec 32 := Scalar.select v640 v641 v635
  let v643 : BitVec 32 := Scalar.muli c4_i32_406 v642
  let c2_i32_407 : BitVec 32 := 2#32
  let v644 : BitVec 32 := Scalar.addi v643 c2_i32_407
  let c1_i32_417 : BitVec 32 := 1#32
  let v657 : BitVec 32 := Scalar.muli v644 c1_i32_417
  let v658 : BitVec 32 := Scalar.addi c0_i32_418 v657
  v658.toNat
def k0_dev28 (d0 : Dev nD) : Nat :=
  let c0_i32_442 : BitVec 32 := 0#32
  let c4_i32_430 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_423 : BitVec 32 := 2#32
  let v667 : BitVec 32 := Scalar.addi v19 c2_i32_423
  let c4_i32_424 : BitVec 32 := 4#32
  let c0_i32_425 : BitVec 32 := 0#32
  let v668 : BitVec 1 := Scalar.cmpi .eq c4_i32_424 c0_i32_425
  let c1_i32_426 : BitVec 32 := 1#32
  let v669 : BitVec 32 := Scalar.select v668 c1_i32_426 c4_i32_424
  let v670 : BitVec 32 := Scalar.remsi v667 v669
  let c0_i32_428 : BitVec 32 := 0#32
  let v672 : BitVec 1 := Scalar.cmpi .slt v670 c0_i32_428
  let c0_i32_429 : BitVec 32 := 0#32
  let v673 : BitVec 1 := Scalar.cmpi .slt v669 c0_i32_429
  let v674 : BitVec 1 := Scalar.xori v672 v673
  let c0_i32_427 : BitVec 32 := 0#32
  let v671 : BitVec 1 := Scalar.cmpi .ne v670 c0_i32_427
  let v675 : BitVec 1 := Scalar.andi v674 v671
  let v676 : BitVec 32 := Scalar.addi v670 v669
  let v677 : BitVec 32 := Scalar.select v675 v676 v670
  let v678 : BitVec 32 := Scalar.muli c4_i32_430 v677
  let c3_i32_431 : BitVec 32 := 3#32
  let v679 : BitVec 32 := Scalar.addi v678 c3_i32_431
  let c1_i32_441 : BitVec 32 := 1#32
  let v692 : BitVec 32 := Scalar.muli v679 c1_i32_441
  let v693 : BitVec 32 := Scalar.addi c0_i32_442 v692
  v693.toNat
def k0_dev29 (d0 : Dev nD) : Nat :=
  let c0_i32_489 : BitVec 32 := 0#32
  let c4_i32_477 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_470 : BitVec 32 := 3#32
  let v740 : BitVec 32 := Scalar.addi v19 c3_i32_470
  let c4_i32_471 : BitVec 32 := 4#32
  let c0_i32_472 : BitVec 32 := 0#32
  let v741 : BitVec 1 := Scalar.cmpi .eq c4_i32_471 c0_i32_472
  let c1_i32_473 : BitVec 32 := 1#32
  let v742 : BitVec 32 := Scalar.select v741 c1_i32_473 c4_i32_471
  let v743 : BitVec 32 := Scalar.remsi v740 v742
  let c0_i32_475 : BitVec 32 := 0#32
  let v745 : BitVec 1 := Scalar.cmpi .slt v743 c0_i32_475
  let c0_i32_476 : BitVec 32 := 0#32
  let v746 : BitVec 1 := Scalar.cmpi .slt v742 c0_i32_476
  let v747 : BitVec 1 := Scalar.xori v745 v746
  let c0_i32_474 : BitVec 32 := 0#32
  let v744 : BitVec 1 := Scalar.cmpi .ne v743 c0_i32_474
  let v748 : BitVec 1 := Scalar.andi v747 v744
  let v749 : BitVec 32 := Scalar.addi v743 v742
  let v750 : BitVec 32 := Scalar.select v748 v749 v743
  let v751 : BitVec 32 := Scalar.muli c4_i32_477 v750
  let c0_i32_478 : BitVec 32 := 0#32
  let v752 : BitVec 32 := Scalar.addi v751 c0_i32_478
  let c1_i32_488 : BitVec 32 := 1#32
  let v765 : BitVec 32 := Scalar.muli v752 c1_i32_488
  let v766 : BitVec 32 := Scalar.addi c0_i32_489 v765
  v766.toNat
def k0_dev30 (d0 : Dev nD) : Nat :=
  let c0_i32_513 : BitVec 32 := 0#32
  let c4_i32_501 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_494 : BitVec 32 := 3#32
  let v775 : BitVec 32 := Scalar.addi v19 c3_i32_494
  let c4_i32_495 : BitVec 32 := 4#32
  let c0_i32_496 : BitVec 32 := 0#32
  let v776 : BitVec 1 := Scalar.cmpi .eq c4_i32_495 c0_i32_496
  let c1_i32_497 : BitVec 32 := 1#32
  let v777 : BitVec 32 := Scalar.select v776 c1_i32_497 c4_i32_495
  let v778 : BitVec 32 := Scalar.remsi v775 v777
  let c0_i32_499 : BitVec 32 := 0#32
  let v780 : BitVec 1 := Scalar.cmpi .slt v778 c0_i32_499
  let c0_i32_500 : BitVec 32 := 0#32
  let v781 : BitVec 1 := Scalar.cmpi .slt v777 c0_i32_500
  let v782 : BitVec 1 := Scalar.xori v780 v781
  let c0_i32_498 : BitVec 32 := 0#32
  let v779 : BitVec 1 := Scalar.cmpi .ne v778 c0_i32_498
  let v783 : BitVec 1 := Scalar.andi v782 v779
  let v784 : BitVec 32 := Scalar.addi v778 v777
  let v785 : BitVec 32 := Scalar.select v783 v784 v778
  let v786 : BitVec 32 := Scalar.muli c4_i32_501 v785
  let c1_i32_502 : BitVec 32 := 1#32
  let v787 : BitVec 32 := Scalar.addi v786 c1_i32_502
  let c1_i32_512 : BitVec 32 := 1#32
  let v800 : BitVec 32 := Scalar.muli v787 c1_i32_512
  let v801 : BitVec 32 := Scalar.addi c0_i32_513 v800
  v801.toNat
def k0_dev31 (d0 : Dev nD) : Nat :=
  let c0_i32_548 : BitVec 32 := 0#32
  let c4_i32_536 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_529 : BitVec 32 := 3#32
  let v831 : BitVec 32 := Scalar.addi v19 c3_i32_529
  let c4_i32_530 : BitVec 32 := 4#32
  let c0_i32_531 : BitVec 32 := 0#32
  let v832 : BitVec 1 := Scalar.cmpi .eq c4_i32_530 c0_i32_531
  let c1_i32_532 : BitVec 32 := 1#32
  let v833 : BitVec 32 := Scalar.select v832 c1_i32_532 c4_i32_530
  let v834 : BitVec 32 := Scalar.remsi v831 v833
  let c0_i32_534 : BitVec 32 := 0#32
  let v836 : BitVec 1 := Scalar.cmpi .slt v834 c0_i32_534
  let c0_i32_535 : BitVec 32 := 0#32
  let v837 : BitVec 1 := Scalar.cmpi .slt v833 c0_i32_535
  let v838 : BitVec 1 := Scalar.xori v836 v837
  let c0_i32_533 : BitVec 32 := 0#32
  let v835 : BitVec 1 := Scalar.cmpi .ne v834 c0_i32_533
  let v839 : BitVec 1 := Scalar.andi v838 v835
  let v840 : BitVec 32 := Scalar.addi v834 v833
  let v841 : BitVec 32 := Scalar.select v839 v840 v834
  let v842 : BitVec 32 := Scalar.muli c4_i32_536 v841
  let c2_i32_537 : BitVec 32 := 2#32
  let v843 : BitVec 32 := Scalar.addi v842 c2_i32_537
  let c1_i32_547 : BitVec 32 := 1#32
  let v856 : BitVec 32 := Scalar.muli v843 c1_i32_547
  let v857 : BitVec 32 := Scalar.addi c0_i32_548 v856
  v857.toNat
def k0_dev32 (d0 : Dev nD) : Nat :=
  let c0_i32_572 : BitVec 32 := 0#32
  let c4_i32_560 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_553 : BitVec 32 := 3#32
  let v866 : BitVec 32 := Scalar.addi v19 c3_i32_553
  let c4_i32_554 : BitVec 32 := 4#32
  let c0_i32_555 : BitVec 32 := 0#32
  let v867 : BitVec 1 := Scalar.cmpi .eq c4_i32_554 c0_i32_555
  let c1_i32_556 : BitVec 32 := 1#32
  let v868 : BitVec 32 := Scalar.select v867 c1_i32_556 c4_i32_554
  let v869 : BitVec 32 := Scalar.remsi v866 v868
  let c0_i32_558 : BitVec 32 := 0#32
  let v871 : BitVec 1 := Scalar.cmpi .slt v869 c0_i32_558
  let c0_i32_559 : BitVec 32 := 0#32
  let v872 : BitVec 1 := Scalar.cmpi .slt v868 c0_i32_559
  let v873 : BitVec 1 := Scalar.xori v871 v872
  let c0_i32_557 : BitVec 32 := 0#32
  let v870 : BitVec 1 := Scalar.cmpi .ne v869 c0_i32_557
  let v874 : BitVec 1 := Scalar.andi v873 v870
  let v875 : BitVec 32 := Scalar.addi v869 v868
  let v876 : BitVec 32 := Scalar.select v874 v875 v869
  let v877 : BitVec 32 := Scalar.muli c4_i32_560 v876
  let c3_i32_561 : BitVec 32 := 3#32
  let v878 : BitVec 32 := Scalar.addi v877 c3_i32_561
  let c1_i32_571 : BitVec 32 := 1#32
  let v891 : BitVec 32 := Scalar.muli v878 c1_i32_571
  let v892 : BitVec 32 := Scalar.addi c0_i32_572 v891
  v892.toNat
def k0_off4 (d0 : Dev nD) (c0_i32_577 : BitVec 32) (c0_i32_585 : BitVec 32) : Fin 2 → Nat :=
  let c4_i32_584 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v901 : BitVec 32 := Scalar.subi v19 c0_i32_577
  let c4_i32_578 : BitVec 32 := 4#32
  let c0_i32_579 : BitVec 32 := 0#32
  let v902 : BitVec 1 := Scalar.cmpi .eq c4_i32_578 c0_i32_579
  let c1_i32_580 : BitVec 32 := 1#32
  let v903 : BitVec 32 := Scalar.select v902 c1_i32_580 c4_i32_578
  let v904 : BitVec 32 := Scalar.remsi v901 v903
  let c0_i32_582 : BitVec 32 := 0#32
  let v906 : BitVec 1 := Scalar.cmpi .slt v904 c0_i32_582
  let c0_i32_583 : BitVec 32 := 0#32
  let v907 : BitVec 1 := Scalar.cmpi .slt v903 c0_i32_583
  let v908 : BitVec 1 := Scalar.xori v906 v907
  let c0_i32_581 : BitVec 32 := 0#32
  let v905 : BitVec 1 := Scalar.cmpi .ne v904 c0_i32_581
  let v909 : BitVec 1 := Scalar.andi v908 v905
  let v910 : BitVec 32 := Scalar.addi v904 v903
  let v911 : BitVec 32 := Scalar.select v909 v910 v904
  let v912 : BitVec 32 := Scalar.muli c4_i32_584 v911
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v913 : BitVec 32 := Scalar.subi v29 c0_i32_585
  let c4_i32_586 : BitVec 32 := 4#32
  let c0_i32_587 : BitVec 32 := 0#32
  let v914 : BitVec 1 := Scalar.cmpi .eq c4_i32_586 c0_i32_587
  let c1_i32_588 : BitVec 32 := 1#32
  let v915 : BitVec 32 := Scalar.select v914 c1_i32_588 c4_i32_586
  let v916 : BitVec 32 := Scalar.remsi v913 v915
  let c0_i32_590 : BitVec 32 := 0#32
  let v918 : BitVec 1 := Scalar.cmpi .slt v916 c0_i32_590
  let c0_i32_591 : BitVec 32 := 0#32
  let v919 : BitVec 1 := Scalar.cmpi .slt v915 c0_i32_591
  let v920 : BitVec 1 := Scalar.xori v918 v919
  let c0_i32_589 : BitVec 32 := 0#32
  let v917 : BitVec 1 := Scalar.cmpi .ne v916 c0_i32_589
  let v921 : BitVec 1 := Scalar.andi v920 v917
  let v922 : BitVec 32 := Scalar.addi v916 v915
  let v923 : BitVec 32 := Scalar.select v921 v922 v916
  let v924 : BitVec 32 := Scalar.addi v912 v923
  let c256_i32_605 : BitVec 32 := 256#32
  let v936 : BitVec 32 := Scalar.muli v924 c256_i32_605
  let v937 : Index := Scalar.indexCast v936
  let c0_606 : Index := 0#32
  ![v937.toNat, 0]
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Geo.lean ====
/-
# The mesh, the semaphores and the buffers' slices, in closed form

Device `c` of the sixteen has two coordinates, `c / 4` and `c % 4`. It makes sixteen sends, numbered in program
order `i = 4 * g + j`: send `i` goes to the device whose first coordinate is `g` further on and whose second is `j`.
A receiver keeps the block of each sender in a landing slot of its own; the sender computes that slot's number.
Here: who sends to whom and into which slot, the kernel's own chains of words equal to these, and the buffers'
slices as sets of elements.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.GemmProof

open Cert.KernelIdeal Cert.KernelIdeal.Gen

open Idealize.ShloMosaic
open Idealize.ShloMosaic.TcCoe
open Idealize.SL Idealize.SL.Sem

/-! ## Who sends to whom, into which slot -/

/-- The device that device `c`'s send `i` goes to. -/
def dst (c : Dev nD) (i : Fin 16) : Dev nD := ⟨4 * ((c.val / 4 + i.val / 4) % 4) + i.val % 4, by
  have : (c.val / 4 + i.val / 4) % 4 < 4 := Nat.mod_lt _ (by decide)
  have : i.val % 4 < 4 := Nat.mod_lt _ (by decide)
  show _ < 16
  omega⟩

/-- The landing slot, on the receiver, of device `c`'s send `i`. -/
def tsl (c : Dev nD) (i : Fin 16) : Fin 16 := ⟨4 * (i.val / 4) + (i.val % 4 + 4 - c.val % 4) % 4, by
  have := i.isLt
  have : (i.val % 4 + 4 - c.val % 4) % 4 < 4 := Nat.mod_lt _ (by decide)
  omega⟩

/-- The number of device `c`'s send that goes to device `d`. -/
def sendTo (c d : Dev nD) : Fin 16 := ⟨4 * ((d.val / 4 + 4 - c.val / 4) % 4) + d.val % 4, by
  have : (d.val / 4 + 4 - c.val / 4) % 4 < 4 := Nat.mod_lt _ (by decide)
  have : d.val % 4 < 4 := Nat.mod_lt _ (by decide)
  omega⟩

/-- The slot of device `d` in which device `c`'s block lands. -/
def slot (c d : Dev nD) : Fin 16 := tsl c (sendTo c d)

/-- The device whose block lands in device `c`'s slot `t`. -/
def src (c : Dev nD) (t : Fin 16) : Dev nD := ⟨4 * ((c.val / 4 + 4 - t.val / 4) % 4) + (c.val % 4 + 4 - t.val % 4) % 4, by
  have : (c.val / 4 + 4 - t.val / 4) % 4 < 4 := Nat.mod_lt _ (by decide)
  have : (c.val % 4 + 4 - t.val % 4) % 4 < 4 := Nat.mod_lt _ (by decide)
  show _ < 16
  omega⟩

theorem sendTo_dst (c : Dev nD) (i : Fin 16) : sendTo c (dst c i) = i := by revert c i; decide +kernel
theorem dst_sendTo (c d : Dev nD) : dst c (sendTo c d) = d := by revert c d; decide +kernel
theorem slot_dst (c : Dev nD) (i : Fin 16) : slot c (dst c i) = tsl c i := by unfold slot; rw [sendTo_dst]
theorem src_slot (c d : Dev nD) : src d (slot c d) = c := by revert c d; decide +kernel
theorem slot_src (c : Dev nD) (t : Fin 16) : slot (src c t) c = t := by revert c t; decide +kernel
theorem src_tsl (c : Dev nD) (i : Fin 16) : src (dst c i) (tsl c i) = c := by rw [← slot_dst, src_slot]
theorem tsl_injective (c : Dev nD) : Function.Injective (tsl c) := by revert c; decide +kernel
theorem src_injective (c : Dev nD) : Function.Injective (src c) := by revert c; decide +kernel

/-- Device `c`'s sends and the devices they go to. -/
def sends (c : Dev nD) : Fin 16 ≃ Dev nD := ⟨dst c, sendTo c, sendTo_dst c, dst_sendTo c⟩
/-- Device `c`'s slots and the devices whose blocks land there. -/
def slots (c : Dev nD) : Fin 16 ≃ Dev nD := ⟨src c, fun e => slot e c, slot_src c, fun e => src_slot e c⟩
/-- Device `c`'s sends and the slots they land in. -/
def landings (c : Dev nD) : Fin 16 ≃ Fin 16 :=
  Equiv.ofBijective (tsl c) ((Fintype.bijective_iff_injective_and_card _).mpr ⟨tsl_injective c, rfl⟩)

@[simp] theorem sends_apply (c : Dev nD) (i : Fin 16) : sends c i = dst c i := rfl
@[simp] theorem slots_apply (c : Dev nD) (t : Fin 16) : slots c t = src c t := rfl
@[simp] theorem slots_symm_apply (c e : Dev nD) : (slots c).symm e = slot e c := rfl
@[simp] theorem landings_apply (c : Dev nD) (i : Fin 16) : landings c i = tsl c i := rfl

/-! ## The kernel's chains of words -/

theorem off1_eq (c : Dev nD) (g : Fin 4) : k0_off1 c (BitVec.ofNat 32 g.val) = ![0, 512 * ((c.val / 4 + g.val) % 4)] := by
  revert c g; decide +kernel
theorem off2_eq (c : Dev nD) (g j : Fin 4) : k0_off2 c (BitVec.ofNat 32 (4 * g.val)) (BitVec.ofNat 32 j.val)
    = ![(tsl c (finProdFinEquiv (g, j))).val] := by revert c g j; decide +kernel
theorem off3_eq (c : Dev nD) (g j : Fin 4) : k0_off3 c (BitVec.ofNat 32 (4 * g.val)) (BitVec.ofNat 32 j.val)
    = ![(tsl c (finProdFinEquiv (g, j))).val, 0, 0] := by revert c g j; decide +kernel
theorem off4_eq (c : Dev nD) (g u : Fin 4) : k0_off4 c (BitVec.ofNat 32 g.val) (BitVec.ofNat 32 u.val)
    = ![256 * (src c (finProdFinEquiv (g, u))).val, 0] := by revert c g u; decide +kernel

theorem dev17_eq (c : Dev nD) : k0_dev17 c = (dst c 0).val := by revert c; decide +kernel
theorem dev18_eq (c : Dev nD) : k0_dev18 c = (dst c 1).val := by revert c; decide +kernel
theorem dev19_eq (c : Dev nD) : k0_dev19 c = (dst c 2).val := by revert c; decide +kernel
theorem dev20_eq (c : Dev nD) : k0_dev20 c = (dst c 3).val := by revert c; decide +kernel
theorem dev21_eq (c : Dev nD) : k0_dev21 c = (dst c 4).val := by revert c; decide +kernel
theorem dev22_eq (c : Dev nD) : k0_dev22 c = (dst c 5).val := by revert c; decide +kernel
theorem dev23_eq (c : Dev nD) : k0_dev23 c = (dst c 6).val := by revert c; decide +kernel
theorem dev24_eq (c : Dev nD) : k0_dev24 c = (dst c 7).val := by revert c; decide +kernel
theorem dev25_eq (c : Dev nD) : k0_dev25 c = (dst c 8).val := by revert c; decide +kernel
theorem dev26_eq (c : Dev nD) : k0_dev26 c = (dst c 9).val := by revert c; decide +kernel
theorem dev27_eq (c : Dev nD) : k0_dev27 c = (dst c 10).val := by revert c; decide +kernel
theorem dev28_eq (c : Dev nD) : k0_dev28 c = (dst c 11).val := by revert c; decide +kernel
theorem dev29_eq (c : Dev nD) : k0_dev29 c = (dst c 12).val := by revert c; decide +kernel
theorem dev30_eq (c : Dev nD) : k0_dev30 c = (dst c 13).val := by revert c; decide +kernel
theorem dev31_eq (c : Dev nD) : k0_dev31 c = (dst c 14).val := by revert c; decide +kernel
theorem dev32_eq (c : Dev nD) : k0_dev32 c = (dst c 15).val := by revert c; decide +kernel

/-- The signal to each device is made exactly by the others. -/
theorem cond1_iff (c : Dev nD) : k0_cond1 c = 1#1 ↔ c ≠ 0 := by revert c; decide +kernel
theorem cond2_iff (c : Dev nD) : k0_cond2 c = 1#1 ↔ c ≠ 1 := by revert c; decide +kernel
theorem cond3_iff (c : Dev nD) : k0_cond3 c = 1#1 ↔ c ≠ 2 := by revert c; decide +kernel
theorem cond4_iff (c : Dev nD) : k0_cond4 c = 1#1 ↔ c ≠ 3 := by revert c; decide +kernel
theorem cond5_iff (c : Dev nD) : k0_cond5 c = 1#1 ↔ c ≠ 4 := by revert c; decide +kernel
theorem cond6_iff (c : Dev nD) : k0_cond6 c = 1#1 ↔ c ≠ 5 := by revert c; decide +kernel
theorem cond7_iff (c : Dev nD) : k0_cond7 c = 1#1 ↔ c ≠ 6 := by revert c; decide +kernel
theorem cond8_iff (c : Dev nD) : k0_cond8 c = 1#1 ↔ c ≠ 7 := by revert c; decide +kernel
theorem cond9_iff (c : Dev nD) : k0_cond9 c = 1#1 ↔ c ≠ 8 := by revert c; decide +kernel
theorem cond10_iff (c : Dev nD) : k0_cond10 c = 1#1 ↔ c ≠ 9 := by revert c; decide +kernel
theorem cond11_iff (c : Dev nD) : k0_cond11 c = 1#1 ↔ c ≠ 10 := by revert c; decide +kernel
theorem cond12_iff (c : Dev nD) : k0_cond12 c = 1#1 ↔ c ≠ 11 := by revert c; decide +kernel
theorem cond13_iff (c : Dev nD) : k0_cond13 c = 1#1 ↔ c ≠ 12 := by revert c; decide +kernel
theorem cond14_iff (c : Dev nD) : k0_cond14 c = 1#1 ↔ c ≠ 13 := by revert c; decide +kernel
theorem cond15_iff (c : Dev nD) : k0_cond15 c = 1#1 ↔ c ≠ 14 := by revert c; decide +kernel
theorem cond16_iff (c : Dev nD) : k0_cond16 c = 1#1 ↔ c ≠ 15 := by revert c; decide +kernel

/-! ## The buffers and their slices -/

abbrev xM : Memref sig .tc .vmem S256x4096 .bf16 := Memref.whole cc0_stg0_0
abbrev oM : Memref sig .tc .vmem S4096x128 .f32 := Memref.whole cc0_stg1_0
abbrev hM : Memref sig .tc .hbm S4096x2048 .bf16 := Memref.whole main_arg1
abbrev wM : Memref sig .tc .vmem S2x4096x512 .bf16 := Memref.whole cc0_scratch0
abbrev yM : Memref sig .tc .vmem S4x256x512 .bf16 := Memref.whole cc0_scratch1
abbrev cM : Memref sig .tc .vmem S16x256x128 .bf16 := Memref.whole cc0_scratch2

theorem inbW (s : Fin 2) : ∀ a, (![s.val, 0, 0] : Fin 3 → ℕ) a + S1x4096x512.size a ≤ S2x4096x512.size a := by
  revert s; decide
theorem inbC (t : Fin 16) : ∀ a, (![t.val, 0, 0] : Fin 3 → ℕ) a + S1x256x128.size a ≤ S16x256x128.size a := by
  revert t; decide
theorem inbY (i : Fin 16) : ∀ a, (![i.val / 4, 0, 128 * (i.val % 4)] : Fin 3 → ℕ) a + S1x256x128.size a ≤ S4x256x512.size a := by
  revert i; decide
theorem inbH (b : Fin 4) : ∀ a, (![0, 512 * b.val] : Fin 2 → ℕ) a + S4096x512.size a ≤ S4096x2048.size a := by
  revert b; decide
theorem inbO (d : Fin 16) : ∀ a, (![256 * d.val, 0] : Fin 2 → ℕ) a + S256x128.size a ≤ S4096x128.size a := by
  revert d; decide

/-- Slot `s` of the two-slot buffer of weights. -/
abbrev wV (s : Fin 2) : Memref sig .tc .vmem S4096x512 .bf16 :=
  (wM.slice (Rect.unit (s := S2x4096x512) ![s.val, 0, 0] S1x4096x512.size (inbW s)) (fun _ => rfl)).squeeze S4096x512 squeezes_S1x4096x512_S4096x512
/-- Landing slot `t`. -/
abbrev cV (t : Fin 16) : Memref sig .tc .vmem S256x128 .bf16 :=
  (cM.slice (Rect.unit (s := S16x256x128) ![t.val, 0, 0] S1x256x128.size (inbC t)) (fun _ => rfl)).squeeze S256x128 squeezes_S1x256x128_S256x128
/-- The window of the outgoing buffer that send `i` reads. -/
abbrev yV (i : Fin 16) : Memref sig .tc .vmem S256x128 .bf16 :=
  (yM.slice (Rect.unit (s := S4x256x512) ![i.val / 4, 0, 128 * (i.val % 4)] S1x256x128.size (inbY i)) (fun _ => rfl)).squeeze S256x128 squeezes_S1x256x128_S256x128
/-- Column block `b` of the weights. -/
abbrev hV (b : Fin 4) : Memref sig .tc .hbm S4096x512 .bf16 :=
  hM.slice (Rect.unit (s := S4096x2048) ![0, 512 * b.val] S4096x512.size (inbH b)) (fun _ => rfl)

/-- The column block of the weights that device `c`'s group `g` of sends multiplies by. -/
def colBlk (c : Dev nD) (g : Fin 4) : Fin 4 := ⟨(c.val / 4 + g.val) % 4, Nat.mod_lt _ (by decide)⟩
theorem colBlk_injective (c : Dev nD) : Function.Injective (colBlk c) := by revert c; decide +kernel
def colBlks (c : Dev nD) : Fin 4 ≃ Fin 4 :=
  Equiv.ofBijective (colBlk c) ((Fintype.bijective_iff_injective_and_card _).mpr ⟨colBlk_injective c, rfl⟩)
@[simp] theorem colBlks_apply (c : Dev nD) (g : Fin 4) : colBlks c g = colBlk c g := rfl

/-- A buffer's slice at equal offsets is the same slice: the program's memrefs are the ones named here. -/
theorem slice_congr {sp : Space} {s t : Shape} {e : EltTy} (M : Memref sig .tc sp s e) {off off' size : Fin s.rank → ℕ} (h : off = off')
    (h₁ : ∀ a, off a + size a ≤ s.size a) (h₂ : ∀ a, off' a + size a ≤ s.size a) :
    M.slice (Rect.unit off size h₁) (fun _ => rfl) = M.slice (Rect.unit off' size h₂) (fun _ => rfl) := by
  subst h; rfl

/-! ## The slices as sets of elements -/

theorem mem_wV (s : Fin 2) (x : S2x4096x512.Idx) : x ∈ ((wV s).view.set : Finset S2x4096x512.Idx) ↔ (x 0).val = s.val := by
  rw [show ((wV s).view.set : Finset S2x4096x512.Idx) = (Rect.unit (s := S2x4096x512) ![s.val, 0, 0] S1x4096x512.size (inbW s)).set from (View.set_reshape _ _).trans (View.set_slice_whole _ _), Rect.mem_set_unit]
  have h1 := (x 1).isLt
  have h2 := (x 2).isLt
  constructor
  · intro h; have := h 0; simp at this; omega
  · intro h a; fin_cases a
    · simp; omega
    · simpa using h1
    · simpa using h2

theorem mem_cV (t : Fin 16) (x : S16x256x128.Idx) : x ∈ ((cV t).view.set : Finset S16x256x128.Idx) ↔ (x 0).val = t.val := by
  rw [show ((cV t).view.set : Finset S16x256x128.Idx) = (Rect.unit (s := S16x256x128) ![t.val, 0, 0] S1x256x128.size (inbC t)).set from (View.set_reshape _ _).trans (View.set_slice_whole _ _), Rect.mem_set_unit]
  have h1 := (x 1).isLt
  have h2 := (x 2).isLt
  constructor
  · intro h; have := h 0; simp at this; omega
  · intro h a; fin_cases a
    · simp; omega
    · simpa using h1
    · simpa using h2

/-- The number of the send whose window holds an element of the outgoing buffer. -/
def wnum (x : S4x256x512.Idx) : ℕ := 4 * (x 0).val + (x 2).val / 128

theorem mem_yV (i : Fin 16) (x : S4x256x512.Idx) : x ∈ ((yV i).view.set : Finset S4x256x512.Idx) ↔ wnum x = i.val := by
  rw [show ((yV i).view.set : Finset S4x256x512.Idx) = (Rect.unit (s := S4x256x512) ![i.val / 4, 0, 128 * (i.val % 4)] S1x256x128.size (inbY i)).set from (View.set_reshape _ _).trans (View.set_slice_whole _ _), Rect.mem_set_unit]
  have h1 := (x 1).isLt
  have h2 := (x 2).isLt
  have h2' : (x 2).val < 512 := h2
  unfold wnum
  constructor
  · intro h
    have h0 := h 0
    have h3 := h 2
    simp at h0 h3
    omega
  · intro h a; fin_cases a
    · simp; omega
    · simpa using h1
    · simp; omega

theorem mem_hV (b : Fin 4) (x : S4096x2048.Idx) : x ∈ ((hV b).view.set : Finset S4096x2048.Idx) ↔ (x 1).val / 512 = b.val := by
  rw [show ((hV b).view.set : Finset S4096x2048.Idx) = (Rect.unit (s := S4096x2048) ![0, 512 * b.val] S4096x512.size (inbH b)).set from View.set_slice_whole _ _, Rect.mem_set_unit]
  have h0 := (x 0).isLt
  constructor
  · intro h; have := h 1; simp at this; omega
  · intro h a; fin_cases a
    · simpa using h0
    · simp; omega

end Cert.GemmProof

end
-- ==== Proof.Sched.lean ====
/-
# What every buffer holds, and the protocol of the semaphores

Each device multiplies its rows of the input by the four column blocks of the weights and applies the activation:
`yfull` is the outgoing buffer when all of it is written. Window `i` of it goes to device `dst c i`, so `yblk s d` is
what device `s` sends to device `d`, and `outAt c` is the result of device `c`: row block `d` is what `d` sent.

The semaphores follow one round each. A device's barrier cell has a duty for every other device, which hands over the
landing slot of its own that the device will write. A landing cell has one duty, paid by the sender's copy with the
block that landed; a send cell has one duty, paid by the same copy with the window it has read.
-/
module

public import proofs.«01_k».proof.Proof.Geo
public import Idealize.ShloMosaic.Lib.Rounds
public import Idealize.ShloMosaic.Lib.Pointwise.Index
public import Idealize.ShloMosaic.Lib.Transfers

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the kernel's rounds (duties named by devices), the local copies' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ)

/-! ## Contents -/

/-- Device `c`'s rows of the input, as staged. -/
def xstg (c : Dev nD) : (cc0_stg0_0 : Ref sig .tc).ty.Contents (Elt F) :=
  (win0_0.blk (0 : Fin 1)).view.read (Elt F) (m ((c : Thread nD τ).loc main_arg0))

/-- Device `c`'s copy of the weights. -/
def wts (c : Dev nD) : (main_arg1 : Ref sig .tc).ty.Contents (Elt F) := m ((c : Thread nD τ).loc main_arg1)

/-- Column block `b` of device `c`'s weights. -/
def wblk (c : Dev nD) (b : Fin 4) : S4096x512.Idx → Elt F .bf16 := (hV b).view.read (Elt F) (wts m c)

theorem casts_w : S4096x512.ShapeCasts S1x4096x512 := by decide
theorem casts_c : S256x128.ShapeCasts S1x256x128 := by decide

/-- The same block as the kernel loads it, with an axis of extent one in front. -/
def wld (c : Dev nD) (g : Fin 4) : Vec F S1x4096x512 .bf16 := shapeCast S1x4096x512 (wblk m c (colBlk c g)) casts_w

/-- The two halves of group 0, groups 1 and 2, and the two halves of group 3, as the kernel stores them. -/
def pc0 (c : Dev nD) : FVec F S1x256x256 .bf16 := k0_pay2 (k0_pay1 (xstg m c)) (wld m c 0)
def pc1 (c : Dev nD) : FVec F S1x256x256 .bf16 := k0_pay6 (k0_pay4 (k0_pay1 (xstg m c)) (wld m c 0)) (k0_pay5 (k0_pay1 (xstg m c)) (wld m c 0))
def pc2 (c : Dev nD) : FVec F S1x256x512 .bf16 := k0_pay7 (k0_pay1 (xstg m c)) (wld m c 1)
def pc3 (c : Dev nD) : FVec F S1x256x512 .bf16 :=
  k0_pay11 (k0_pay8 (k0_pay1 (xstg m c)) (wld m c 2)) (k0_pay9 (k0_pay1 (xstg m c)) (wld m c 2)) (k0_pay10 (k0_pay1 (xstg m c)) (wld m c 2))
def pc4 (c : Dev nD) : FVec F S1x256x256 .bf16 :=
  k0_pay14 (k0_pay12 (k0_pay1 (xstg m c)) (wld m c 3)) (k0_pay13 (k0_pay1 (xstg m c)) (wld m c 3)) (Scalar.ofBits .f32 0x3D372713#32)
def pc5 (c : Dev nD) : FVec F S1x256x256 .bf16 := k0_pay15 (k0_pay1 (xstg m c)) (wld m c 3)

/-- An element of a half group, of a whole group: row `r`, column `q`. -/
def at256 (v : FVec F S1x256x256 .bf16) (r : Fin 256) (q : ℕ) : Elt F .bf16 :=
  v (ix3 0 r ⟨q % 256, Nat.mod_lt q (by decide)⟩)
def at512 (v : FVec F S1x256x512 .bf16) (r : Fin 256) (q : ℕ) : Elt F .bf16 :=
  v (ix3 0 r ⟨q % 512, Nat.mod_lt q (by decide)⟩)

/-- The outgoing buffer of device `c`, all groups written: by group, row and column. -/
def ygrp (c : Dev nD) (g : ℕ) (r : Fin 256) (q : ℕ) : Elt F .bf16 :=
  match g with
  | 0 => if q < 256 then at256 (pc0 m c) r q else at256 (pc1 m c) r q
  | 1 => at512 (pc2 m c) r q
  | 2 => at512 (pc3 m c) r q
  | _ => if q < 256 then at256 (pc4 m c) r q else at256 (pc5 m c) r q

def yfull (c : Dev nD) : S4x256x512.Idx → Elt F .bf16 := fun x => ygrp m c (x 0).val (x 1) (x 2).val

/-- What device `s` sends to device `d`. -/
def yblk (s d : Dev nD) : S256x128.Idx → Elt F .bf16 := (yV (sendTo s d)).view.read (Elt F) (yfull m s)

/-- The row block a row of the result lies in: the device that sent it. -/
def rowDev (p : S4096x128.Idx) : Dev nD := ⟨(p 0).val / 256, by have h : (p 0).val < 4096 := (p 0).isLt; show _ < 16; omega⟩
/-- Its place in the block. -/
def rowIn (p : S4096x128.Idx) : S256x128.Idx := ix2 ⟨(p 0).val % 256, Nat.mod_lt (p 0).val (by decide)⟩ (p 1)

/-- The result of device `c`. -/
def outAt (c : Dev nD) : (cc0_stg1_0 : Ref sig .tc).ty.Contents (Elt F) :=
  fun p => k0_pay16 (shapeCast S1x256x128 (yblk m (rowDev p) c) casts_c) (rowIn p)

/-! ## The cells -/

theorem inbS2 (s : Fin 2) : ∀ a, (![s.val] : Fin 1 → ℕ) a + S1.size a ≤ S2.size a := by revert s; decide
theorem inbS16 (t : Fin 16) : ∀ a, (![t.val] : Fin 1 → ℕ) a + S1.size a ≤ S16.size a := by revert t; decide

/-- The barrier's semaphore, which belongs to no launch; the copies', the sends' and the landings' semaphores. -/
abbrev barS : Sem sig := (SemArray.scalar (sig.barrier 0 rfl) : Sems sig S_).sem
abbrev copyS (s : Fin 2) : DmaSem sig := ((cc0_scratch3.slice (Rect.unit (s := S2) ![s.val] S1.size (inbS2 s))).squeeze S_ squeezes_S1_S_).sem
abbrev sendS (t : Fin 16) : DmaSem sig := ((cc0_scratch4.slice (Rect.unit (s := S16) ![t.val] S1.size (inbS16 t))).squeeze S_ squeezes_S1_S_).sem
abbrev recvS (t : Fin 16) : DmaSem sig := ((cc0_scratch5.slice (Rect.unit (s := S16) ![t.val] S1.size (inbS16 t))).squeeze S_ squeezes_S1_S_).sem

abbrev copyCell (c : Dev nD) (s : Fin 2) : GSem nD τ sig := ((c : Thread nD τ), .dma (copyS s))
abbrev barCell (c : Dev nD) : GSem nD τ sig := ((c : Thread nD τ), .reg barS)
abbrev sendCell (c : Dev nD) (t : Fin 16) : GSem nD τ sig := ((c : Thread nD τ), .dma (sendS t))
abbrev recvCell (c : Dev nD) (t : Fin 16) : GSem nD τ sig := ((c : Thread nD τ), .dma (recvS t))

/-- The cells a device has in the protocol: the barrier, sixteen for sends, sixteen for landings. -/
abbrev CK : Type := Unit ⊕ (Fin 16 ⊕ Fin 16)
abbrev csem : CK → SemLoc sig
  | .inl _ => .reg barS
  | .inr (.inl t) => .dma (sendS t)
  | .inr (.inr t) => .dma (recvS t)
abbrev kcell (ck : Dev nD × CK) : GSem nD τ sig := ((ck.1 : Thread nD τ), csem ck.2)

/-- Which of them a semaphore is. -/
def kindOf (sm : SemLoc sig) : Option CK :=
  match sm with
  | .reg s => if s = barS then some (.inl ()) else none
  | .dma q => if h : 4 ≤ q.val ∧ q.val < 20 then some (.inr (.inl ⟨q.val - 4, by omega⟩))
      else if h : 20 ≤ q.val ∧ q.val < 36 then some (.inr (.inr ⟨q.val - 20, by omega⟩)) else none

theorem kindOf_bar : kindOf (.reg barS) = some (.inl ()) := by decide
theorem kindOf_send (t : Fin 16) : kindOf (.dma (sendS t)) = some (.inr (.inl t)) := by revert t; decide +kernel
theorem kindOf_recv (t : Fin 16) : kindOf (.dma (recvS t)) = some (.inr (.inr t)) := by revert t; decide +kernel
theorem kindOf_copy (s : Fin 2) : kindOf (.dma (copyS s)) = none := by revert s; decide +kernel
theorem kindOf_csem (k : CK) : kindOf (csem k) = some k := by
  rcases k with u | t | t
  · exact kindOf_bar
  · exact kindOf_send t
  · exact kindOf_recv t

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← kindOf_csem k, ← kindOf_csem k', h2]
  rw [h1, Option.some.inj h3]

/-- What a block's copy adds to its semaphores. -/
abbrev N : ℕ := (cV 0).view.dmaCredit
theorem N_pos : 0 < N := View.dmaCredit_pos _ (by decide)

/-! ## The schedule -/

/-- What device `d`'s signal hands device `c`: `d`'s landing slot for `c`'s block. -/
def barPay (c d : Dev nD) : sProp 𝕄 := iprop(∃ X, owns (d : Thread nD τ) (cV (slot c d)) fullShare X)
/-- What device `c`'s copy into the others' slot `t` hands back: the window it has read. -/
def sendPay (c : Dev nD) (t : Fin 16) : sProp 𝕄 :=
  iprop(∃ f, (yV ((landings c).symm t)).view.loc (c : Thread nD τ) ↦[(yV ((landings c).symm t)).view.set]{fullShare} f)
/-- What the copy into device `c`'s slot `t` hands over: the slot holding the sender's block. -/
def recvPay (c : Dev nD) (t : Fin 16) : sProp 𝕄 := owns (c : Thread nD τ) (cV t) fullShare (yblk m (src c t) c)

def dutiesOf (c : Dev nD) : Option CK → Finset (Dev nD)
  | some (.inl _) => Finset.univ.erase c
  | some (.inr _) => {0}
  | none => ∅
def amountOf : Option CK → ℕ
  | some (.inl _) => 1
  | _ => N
def payOf (c d : Dev nD) : Option CK → sProp 𝕄
  | some (.inl _) => barPay c d
  | some (.inr (.inl t)) => sendPay c t
  | some (.inr (.inr t)) => recvPay m c t
  | none => iprop(emp)

theorem amountOf_pos (k : Option CK) : 0 < amountOf k := by
  rcases k with _ | u | t <;> first | exact N_pos | exact Nat.one_pos

/-- One round of each cell. -/
def meshRd : Rounds.Schedule (GSem nD τ sig) (Dev nD) 𝕄 where
  duties g r := if r = 0 ∧ g.1.2 = .tc then dutiesOf g.1.1 (kindOf g.2) else ∅
  unitless _ := False
  amount g _ _ := amountOf (kindOf g.2)
  payload g _ d := payOf m g.1.1 d (kindOf g.2)
  amount_pos g _ _ _ := amountOf_pos _

instance meshRd_payload_storable (g : GSem nD τ sig) (r : ℕ) (d : Dev nD) :
    BI.Storable (upEmb : UEmb _ 𝕄) ((meshRd (F := F) m).payload g r d) := by
  show BI.Storable upEmb (payOf m g.1.1 d (kindOf g.2))
  rcases kindOf g.2 with _ | u | t | t
  · unfold payOf; infer_instance
  · unfold payOf barPay; infer_instance
  · unfold payOf sendPay; infer_instance
  · unfold payOf recvPay; infer_instance

section Sched
variable (c : Dev nD) (t : Fin 16) (d : Dev nD)

theorem duties_bar : (meshRd (F := F) m).duties (barCell c) 0 = Finset.univ.erase c := by
  dsimp only [meshRd]; rw [if_pos ⟨rfl, rfl⟩, kindOf_bar]; rfl
theorem duties_send : (meshRd (F := F) m).duties (sendCell c t) 0 = {0} := by
  dsimp only [meshRd]; rw [if_pos ⟨rfl, rfl⟩, kindOf_send]; rfl
theorem duties_recv : (meshRd (F := F) m).duties (recvCell c t) 0 = {0} := by
  dsimp only [meshRd]; rw [if_pos ⟨rfl, rfl⟩, kindOf_recv]; rfl
theorem duties_later (g : GSem nD τ sig) : ∀ r, 1 ≤ r → (meshRd (F := F) m).duties g r = ∅ :=
  fun r hr => by dsimp only [meshRd]; rw [if_neg fun h => by omega]

theorem amount_bar : (meshRd (F := F) m).amount (barCell c) 0 d = 1 := by dsimp only [meshRd]; rw [kindOf_bar]; rfl
theorem amount_send : (meshRd (F := F) m).amount (sendCell c t) 0 d = N := by dsimp only [meshRd]; rw [kindOf_send]; rfl
theorem amount_recv : (meshRd (F := F) m).amount (recvCell c t) 0 d = N := by dsimp only [meshRd]; rw [kindOf_recv]; rfl

theorem expect_bar : (meshRd (F := F) m).expect (barCell c) 0 = 15 := by
  unfold Schedule.expect Schedule.amountOf
  rw [duties_bar, Finset.sum_congr rfl fun d _ => amount_bar m c d, Finset.sum_const, Finset.card_erase_of_mem (Finset.mem_univ _), Finset.card_univ,
    smul_eq_mul]
  rfl
theorem expect_send : (meshRd (F := F) m).expect (sendCell c t) 0 = N := by
  unfold Schedule.expect Schedule.amountOf; rw [duties_send, Finset.sum_singleton, amount_send]
theorem expect_recv : (meshRd (F := F) m).expect (recvCell c t) 0 = N := by
  unfold Schedule.expect Schedule.amountOf; rw [duties_recv, Finset.sum_singleton, amount_recv]

theorem payload_bar : (meshRd (F := F) m).payload (barCell c) 0 d = barPay c d := by dsimp only [meshRd]; rw [kindOf_bar]; rfl
theorem payload_send : (meshRd (F := F) m).payload (sendCell c t) 0 d = sendPay c t := by dsimp only [meshRd]; rw [kindOf_send]; rfl
theorem payload_recv : (meshRd (F := F) m).payload (recvCell c t) 0 d = recvPay m c t := by dsimp only [meshRd]; rw [kindOf_recv]; rfl

/-- The rest of each cell's round, no duty taken. -/
theorem rest_bar : bigSep ((meshRd (F := F) m).duties (barCell c) 0 \ ∅) (fun d => (meshRd (F := F) m).payload (barCell c) 0 d)
    = bigSep (Finset.univ.erase c) fun d => barPay c d := by
  rw [Finset.sdiff_empty, duties_bar]; exact bigSep_congr fun d _ => payload_bar m c d
theorem rest_send : bigSep ((meshRd (F := F) m).duties (sendCell c t) 0 \ ∅) (fun d => (meshRd (F := F) m).payload (sendCell c t) 0 d) = sendPay c t := by
  rw [Finset.sdiff_empty, duties_send, bigSep_singleton, payload_send]
theorem rest_recv : bigSep ((meshRd (F := F) m).duties (recvCell c t) 0 \ ∅) (fun d => (meshRd (F := F) m).payload (recvCell c t) 0 d) = recvPay m c t := by
  rw [Finset.sdiff_empty, duties_recv, bigSep_singleton, payload_recv]

end Sched

/-! ## What each device owes; the levels -/

/-- The landings device `c` owes from its send `n` on, -/
def Orecv (c : Dev nD) (n : ℕ) : CellTallies nD τ sig Unit :=
  ∑ i ∈ Finset.univ.filter (fun i : Fin 16 => n ≤ i.val), tallyAt (recvCell (dst c i) (tsl c i)) () N
/-- the signals it owes the devices from `k` on, -/
def Obar (c : Dev nD) (k : ℕ) : CellTallies nD τ sig Unit :=
  ∑ e ∈ (Finset.univ.filter (fun e : Dev nD => k ≤ e.val)).erase c, tallyAt (barCell e) () 1
/-- and both. -/
def Oall (c : Dev nD) (k n : ℕ) : CellTallies nD τ sig Unit := Orecv c n + Obar c k

def L (g : GSem nD τ sig) : Finset Unit := if g.1.2 = .tc then {()} else ∅
/-- barrier cells at 1, landing cells at 2, everything else at 0. -/
def lvk : Option CK → ℕ
  | some (.inl _) => 1
  | some (.inr (.inr _)) => 2
  | _ => 0
def lv (g : GSem nD τ sig) (_ : Unit) : ℕ := lvk (kindOf g.2)

theorem L_of_ne (g : GSem nD τ sig) (h : g.1.2 ≠ .tc) : L g = ∅ := if_neg h
theorem L_tc (c : Dev nD) (sm : SemLoc sig) : L ((c : Thread nD τ), sm) = {()} := if_pos rfl

/-- Every cell a tally names has a property. -/
def Only (P : GSem nD τ sig → Prop) (O : CellTallies nD τ sig Unit) : Prop := ∀ g u, 0 < O g u → P g

theorem only_zero (P : GSem nD τ sig → Prop) : Only P 0 := fun g u h => absurd h (Nat.lt_irrefl 0)
theorem only_add {P : GSem nD τ sig → Prop} {O O' : CellTallies nD τ sig Unit} (h : Only P O) (h' : Only P O') : Only P (O + O') := fun g u hg => by
  rw [Pi.add_apply, Finsupp.add_apply] at hg
  rcases Nat.eq_zero_or_pos (O g u) with h0 | h0
  · exact h' g u (by omega)
  · exact h g u h0
theorem only_tally {P : GSem nD τ sig → Prop} {g₀ : GSem nD τ sig} (n : ℕ) (h : P g₀) : Only P (tallyAt g₀ () n) := fun g u hg => by
  rw [tallyAt_apply] at hg
  by_cases h' : g = g₀ ∧ u = ()
  · rw [h'.1]; exact h
  · rw [if_neg h'] at hg; exact absurd hg (Nat.lt_irrefl 0)
theorem only_sum {P : GSem nD τ sig → Prop} {I : Type} (s : Finset I) (f : I → CellTallies nD τ sig Unit) (h : ∀ i ∈ s, Only P (f i)) :
    Only P (∑ i ∈ s, f i) :=
  Finset.sum_induction f (Only P) (fun _ _ => only_add) (only_zero P) h

theorem only_Orecv (c : Dev nD) (n : ℕ) : Only (fun g => ∃ e t, g = recvCell e t) (Orecv c n) :=
  only_sum _ _ fun i _ => only_tally _ ⟨_, _, rfl⟩
theorem only_Oall (c : Dev nD) (k n : ℕ) : Only (fun g => (∃ e t, g = recvCell e t) ∨ ∃ e, g = barCell e) (Oall c k n) :=
  only_add (fun g u h => Or.inl (only_Orecv c n g u h)) (only_sum _ _ fun e _ => only_tally _ (Or.inr ⟨_, rfl⟩))

theorem Orecv_last (c : Dev nD) : Orecv c 16 = 0 := by
  unfold Orecv; rw [Finset.filter_false_of_mem fun i _ => by omega, Finset.sum_empty]
theorem Obar_last (c : Dev nD) (k : ℕ) (hk : 16 ≤ k) : Obar c k = 0 := by
  unfold Obar; rw [Finset.filter_false_of_mem fun i _ => by have : i.val < 16 := i.isLt; omega, Finset.erase_empty, Finset.sum_empty]
theorem Oall_last (c : Dev nD) (k : ℕ) (hk : 16 ≤ k) : Oall c k 16 = 0 := by
  unfold Oall; rw [Orecv_last, Obar_last c k hk, add_zero]
theorem Oall_bar (c : Dev nD) (k n : ℕ) (hk : 16 ≤ k) : Oall c k n = Orecv c n := by
  unfold Oall; rw [Obar_last c k hk, add_zero]

theorem from_eq_insert (i : Fin 16) : (Finset.univ.filter fun j : Fin 16 => i.val ≤ j.val) = insert i (Finset.univ.filter fun j : Fin 16 => i.val + 1 ≤ j.val) := by
  revert i; decide +kernel
theorem not_mem_from (i : Fin 16) : i ∉ (Finset.univ.filter fun j : Fin 16 => i.val + 1 ≤ j.val) := by
  rw [Finset.mem_filter]; rintro ⟨-, h⟩; omega

/-- A send pays the landing it is for. -/
theorem Orecv_step (c : Dev nD) (i : Fin 16) : Orecv c i.val = Orecv c (i.val + 1) + tallyAt (recvCell (dst c i) (tsl c i)) () N := by
  unfold Orecv
  rw [from_eq_insert i, Finset.sum_insert (not_mem_from i), add_comm]
/-- A signal pays the unit it is for; -/
theorem Obar_step (c e : Dev nD) (h : c ≠ e) : Obar c e.val = Obar c (e.val + 1) + tallyAt (barCell e) () 1 := by
  unfold Obar
  rw [from_eq_insert e, Finset.erase_insert_of_ne h.symm, Finset.sum_insert (fun hm => not_mem_from e (Finset.mem_of_mem_erase hm)), add_comm]
/-- a device owes itself none. -/
theorem Obar_self (c : Dev nD) : Obar c c.val = Obar c (c.val + 1) := by
  unfold Obar
  rw [from_eq_insert c, Finset.erase_insert_eq_erase]

/-- A wait below every cell still owed is allowed. -/
theorem mayWait_of (c : Dev nD) (sm : SemLoc sig) (l : ℕ) (hl : lvk (kindOf sm) = l) (O : CellTallies nD τ sig Unit)
    (hO : Only (fun g => g.1.2 = .tc ∧ l < lv g ()) O) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by
      have h := (hO g u hg).1
      show u ∈ L g
      unfold L; rw [if_pos h]; exact Finset.mem_singleton_self _)
    (fun p hp => by rw [Finset.mem_singleton.mp hp]; show lvk (kindOf sm) ≤ l; exact hl.le)
    (fun g u hg => (hO g u hg).2)

theorem lv_recv (e : Dev nD) (t : Fin 16) : lv (recvCell e t) () = 2 := by unfold lv; rw [kindOf_recv]; rfl
theorem lv_bar (e : Dev nD) : lv (barCell e) () = 1 := by unfold lv; rw [kindOf_bar]; rfl

/-- At the lowest level a device may wait whatever it owes, -/
theorem mayWait_low (c : Dev nD) (sm : SemLoc sig) (h : lvk (kindOf sm) = 0) (k n : ℕ) :
    (levAts L lv : sProp 𝕄) ⊢ MayWait (c : Thread nD τ) sm () (Oall c k n) :=
  mayWait_of c sm 0 h _ fun g u hg => by
    rcases only_Oall c k n g u hg with ⟨e, t, rfl⟩ | ⟨e, rfl⟩
    · exact ⟨rfl, by rw [lv_recv]; decide⟩
    · exact ⟨rfl, by rw [lv_bar]; decide⟩
/-- at its barrier when it owes landings only. -/
theorem mayWait_bar (c : Dev nD) (k n : ℕ) (hk : 16 ≤ k) :
    (levAts L lv : sProp 𝕄) ⊢ MayWait (c : Thread nD τ) (.reg barS) () (Oall c k n) :=
  mayWait_of c _ 1 (by rw [kindOf_bar]; rfl) _ fun g u hg => by
    rw [Oall_bar c k n hk] at hg
    obtain ⟨e, t, rfl⟩ := only_Orecv c n g u hg
    exact ⟨rfl, by rw [lv_recv]; decide⟩

end Cert.GemmProof
-- ==== Proof.State.lean ====
/-
# What a device holds at each point of its program

`St` names it by counters: how many signals the device has made (17 when it has passed its barrier), how many
blocks it has sent, up to which window its outgoing buffer is written, how many send waits and receives it has done,
how many row blocks of the result are written, and what the two buffers of weights hold.
-/
module

public import proofs.«01_k».proof.Proof.Sched

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)

/-! ## Sets of sends (or slots, or devices) by number -/

def From (n : ℕ) : Finset (Fin 16) := Finset.univ.filter fun i => n ≤ i.val
def Below (n : ℕ) : Finset (Fin 16) := Finset.univ.filter fun i => i.val < n
def Mid (u n : ℕ) : Finset (Fin 16) := Finset.univ.filter fun i => u ≤ i.val ∧ i.val < n

theorem From_eq (i : Fin 16) : From i.val = insert i (From (i.val + 1)) := from_eq_insert i
theorem not_mem_From (i : Fin 16) : i ∉ From (i.val + 1) := not_mem_from i
theorem Below_eq (i : Fin 16) : Below (i.val + 1) = insert i (Below i.val) := by revert i; decide +kernel
theorem not_mem_Below (i : Fin 16) : i ∉ Below i.val := by unfold Below; rw [Finset.mem_filter]; rintro ⟨-, h⟩; omega
theorem mem_Below {i : Fin 16} {n : ℕ} (h : i.val < n) : i ∈ Below n := Finset.mem_filter.mpr ⟨Finset.mem_univ _, h⟩
theorem Mid_last (i : Fin 16) : Mid 0 (i.val + 1) = insert i (Mid 0 i.val) := by revert i; decide +kernel
theorem not_mem_Mid_last (i : Fin 16) : i ∉ Mid 0 i.val := by unfold Mid; rw [Finset.mem_filter]; rintro ⟨-, h⟩; omega
theorem Mid_first (i : Fin 16) : Mid i.val 16 = insert i (Mid (i.val + 1) 16) := by revert i; decide +kernel
theorem not_mem_Mid_first (i : Fin 16) : i ∉ Mid (i.val + 1) 16 := by unfold Mid; rw [Finset.mem_filter]; rintro ⟨-, h⟩; omega
theorem From_zero : From 0 = Finset.univ := by decide
theorem From_last : From 16 = ∅ := by decide
theorem Below_zero : Below 0 = ∅ := by decide
theorem Below_last : Below 16 = Finset.univ := by decide
theorem Mid_zero : Mid 0 0 = ∅ := by decide
theorem Mid_end : Mid 16 16 = ∅ := by decide

/-! ## The pieces -/

theorem bigSep_one {I : Type} [DecidableEq I] {s : Finset I} {i : I} (h : i ∈ s) {Φ : I → sProp 𝕄} : (bigSep s Φ : sProp 𝕄) ⊢ Φ i := bigSep_elim h
theorem bigSep_out {I : Type} [DecidableEq I] {s : Finset I} {i : I} (h : i ∈ s) {Φ : I → sProp 𝕄} :
    bigSep s Φ = iprop(Φ i ∗ bigSep (s.erase i) Φ) := bigSep_erase h
theorem bigSep_in {I : Type} [DecidableEq I] {s : Finset I} {i : I} (h : i ∉ s) {Φ : I → sProp 𝕄} :
    bigSep (insert i s) Φ = iprop(Φ i ∗ bigSep s Φ) := bigSep_insert h

/-- Known to every device for good: the cells' invariants, that each is at its round 0, and the levels. -/
def Rec : sProp 𝕄 :=
  iprop((bigSep Finset.univ fun ck : Dev nD × CK => iprop(cellInv ER (meshRd m) (K ck) (kcell ck) ∗ reached ER (kcell ck) 0)) ∗ levAts L lv)

instance Rec_persistent : BI.Persistent (Rec m K) := by unfold Rec; infer_instance

theorem Rec_inv (ck : Dev nD × CK) : Rec m K ⊢ cellInv ER (meshRd m) (K ck) (kcell ck) := by
  unfold Rec
  iintro ⟨H, -⟩
  ihave H' := (bigSep_one (Finset.mem_univ ck)) $$ H
  icases H' with ⟨H, -⟩
  iexact H
theorem Rec_reached (ck : Dev nD × CK) : Rec m K ⊢ reached ER (kcell ck) 0 := by
  unfold Rec
  iintro ⟨H, -⟩
  ihave H' := (bigSep_one (Finset.mem_univ ck)) $$ H
  icases H' with ⟨-, H⟩
  iexact H
theorem Rec_lev : Rec m K ⊢ levAts L lv := by
  unfold Rec
  iintro ⟨-, H⟩
  iexact H

/-- Before the barrier: what the signals from `k` on hand over. -/
def SigRes (c e : Dev nD) : sProp 𝕄 :=
  if e = c then iprop(emp) else iprop(dutyTok ER (barCell e) 0 c ∗ barPay e c)
def Bar0 (c : Dev nD) (k : ℕ) : sProp 𝕄 :=
  iprop(atPos ER (barCell c) 0 ∅ 0 ∗ cred (tallyAt (barCell c) () 15) ∗ barPay c c ∗ bigSep (From k) fun e => SigRes c e)
/-- After it: the others' landing slots for the sends from `n` on. -/
def Bar1 (c : Dev nD) (n : ℕ) : sProp 𝕄 :=
  iprop(semVal (barCell c) 0 ∗ bigSep (From n) fun i => barPay c (dst c i))
def Bar (c : Dev nD) (k n : ℕ) : sProp 𝕄 := if k ≤ 16 then Bar0 c k else Bar1 c n

/-- What the device owes; which waits it has made is of no account. -/
def Ow (c : Dev nD) (k n : ℕ) : sProp 𝕄 := iprop(∃ W, owes (c : Thread nD τ) (Oall c k n) W)

/-- The windows not yet sent, written up to window `v`. -/
def ySet (n : ℕ) : Finset S4x256x512.Idx := Finset.univ.filter fun x => n ≤ wnum x
def Yb (c : Dev nD) (n v : ℕ) : sProp 𝕄 :=
  iprop(∃ f : S4x256x512.Idx → Elt F .bf16, ⌜∀ x, n ≤ wnum x → wnum x < v → f x = yfull m c x⌝ ∗ ((yM.view.loc (c : Thread nD τ)) ↦[ySet n]{fullShare} f))

/-- The sends from `n` on still to pay for, those before `u` waited for. -/
def Snd (c : Dev nD) (n u : ℕ) : sProp 𝕄 :=
  iprop((bigSep (From n) fun i => iprop(dutyTok ER (sendCell c (tsl c i)) 0 0 ∗ dutyTok ER (recvCell (dst c i) (tsl c i)) 0 0))
    ∗ (bigSep (Mid u n) fun i => cred (tallyAt (sendCell c (tsl c i)) () N))
    ∗ (bigSep (From u) fun i => atPos ER (sendCell c (tsl c i)) 0 ∅ 0)
    ∗ (bigSep (Below u) fun i => iprop(semVal (sendCell c (tsl c i)) 0 ∗ sendPay c (tsl c i))))

/-- The landings from slot `t` on awaited, those before arrived. -/
def Rcv (c : Dev nD) (t : ℕ) : sProp 𝕄 :=
  iprop((bigSep (From t) fun i => iprop(atPos ER (recvCell c i) 0 ∅ 0 ∗ cred (tallyAt (recvCell c i) () N)))
    ∗ (bigSep (Below t) fun i => iprop(semVal (recvCell c i) 0 ∗ recvPay m c i)))

def Xin (c : Dev nD) : sProp 𝕄 := iprop((xM.view.loc (c : Thread nD τ)) ↦{fullShare} xstg m c)

/-- The result, the row blocks of the senders in slots below `o` written. -/
def Outb (c : Dev nD) (o : ℕ) : sProp 𝕄 :=
  iprop(∃ f : S4096x128.Idx → Elt F .f32, ⌜∀ p, (slot (rowDev p) c).val < o → f p = outAt m c p⌝ ∗ ((oM.view.loc (c : Thread nD τ)) ↦{fullShare} f))

/-- A buffer of weights: holding nothing of account, group `g`'s column block on its way into it, that block. -/
inductive VS where
  | free
  | fly (g : Fin 4)
  | full (g : Fin 4)
deriving DecidableEq

/-- What a column block's copy adds to its semaphore. -/
abbrev NW : ℕ := (wV 0).view.dmaCredit

def Home (c : Dev nD) (g : Fin 4) : sProp 𝕄 :=
  iprop((hV (colBlk c g)).view.loc (c : Thread nD τ) ↦[(hV (colBlk c g)).view.set]{fullShare} wts m c)
def WSlot (c : Dev nD) (s : Fin 2) : VS → sProp 𝕄
  | .free => iprop((∃ X, owns (c : Thread nD τ) (wV s) fullShare X) ∗ semVal (copyCell c s) 0)
  | .fly g => Flight EC (c : Thread nD τ) (.dma (copyS s)) () NW iprop(Home m c g ∗ owns (c : Thread nD τ) (wV s) fullShare (wblk m c (colBlk c g)))
  | .full g => iprop(owns (c : Thread nD τ) (wV s) fullShare (wblk m c (colBlk c g)) ∗ semVal (copyCell c s) 0)
/-- The groups whose column block is not on its way. -/
def home (vs : Fin 2 → VS) : Finset (Fin 4) := Finset.univ.filter fun g => vs 0 ≠ .fly g ∧ vs 1 ≠ .fly g
def Wb (c : Dev nD) (vs : Fin 2 → VS) : sProp 𝕄 :=
  iprop((bigSep (home vs) fun g => Home m c g) ∗ (bigSep Finset.univ fun s : Fin 2 => WSlot m c s (vs s)))

/-- A device's state: signals made `k`, blocks sent `n`, windows written `v`, send waits `u`, receives `t`, row blocks
    written `o`, buffers of weights `vs`. -/
def St (c : Dev nD) (k n v u t o : ℕ) (vs : Fin 2 → VS) : sProp 𝕄 :=
  iprop(Rec m K ∗ Ow c k n ∗ Bar c k n ∗ Yb m c n v ∗ Snd c n u ∗ Rcv m c t ∗ Xin m c ∗ Outb m c o ∗ Wb m c vs)

abbrev 𝒱₀ : Variants := Variants.none

/-- Running a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- One program after another. -/
theorem wp_seq {c : Dev nD} {α β : Type} {p : Prog (TpuEff nD τ sig (Elt F) Λ₀ .tc) α} {k : α → Prog (TpuEff nD τ sig (Elt F) Λ₀ .tc) β}
    {P : sProp 𝕄} {R : α → sProp 𝕄} {Q : β → sProp 𝕄} (h₁ : P ⊢ WP c p R) (h₂ : ∀ r, R r ⊢ WP c (k r) Q) : P ⊢ WP c (p >>= k) Q := by
  unfold WP
  rw [wp_bind]
  exact h₁.trans (wp_mono _ _ _ h₂)

/-- The end of a program. -/
theorem wp_end {c : Dev nD} {α : Type} {a : α} {P : sProp 𝕄} {Q : α → sProp 𝕄} (h : P ⊢ Q a) :
    P ⊢ WP c (.ret a : Prog (TpuEff nD τ sig (Elt F) Λ₀ .tc) α) Q := by
  unfold WP
  rw [wp_ret]
  exact h.trans (by iintro H; imodintro; iexact H)

end Cert.GemmProof
-- ==== Proof.Local.lean ====
/-
# The steps that stay on the device

The copies of column blocks of the weights into the two buffers, the loads and the stores.
-/
module

public import proofs.«01_k».proof.Proof.State

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {k n v u t o : ℕ} {vs : Fin 2 → VS}

/-! ## The copies of the weights -/

theorem credit_wV (s : Fin 2) : (wV s).view.dmaCredit = NW := rfl

/-- One buffer of weights among the two. -/
theorem slots_at (s : Fin 2) (vs : Fin 2 → VS) :
    (bigSep Finset.univ fun r : Fin 2 => WSlot m c r (vs r)) = iprop(WSlot m c s (vs s) ∗ bigSep (Finset.univ.erase s) fun r => WSlot m c r (vs r)) :=
  bigSep_out (Finset.mem_univ s)
theorem slots_rest {s : Fin 2} {vs vs' : Fin 2 → VS} (h : ∀ r, r ≠ s → vs' r = vs r) :
    (bigSep (Finset.univ.erase s) fun r : Fin 2 => WSlot m c r (vs r)) = bigSep (Finset.univ.erase s) fun r => WSlot m c r (vs' r) :=
  bigSep_congr fun r hr => by rw [h r (Finset.ne_of_mem_erase hr)]

/-- A buffer nothing is on its way into may be overwritten. -/
theorem slot_idle (s : Fin 2) (x : VS) (h : ∀ g, x ≠ .fly g) :
    WSlot m c s x ⊢ iprop((∃ X, owns (c : Thread nD τ) (wV s) fullShare X) ∗ semVal (copyCell c s) 0) := by
  cases x with
  | free => exact BI.Entails.refl _
  | fly g => exact absurd rfl (h g)
  | full g =>
    unfold WSlot
    iintro ⟨H, Hz⟩
    isplitl [H]; · iexists _; iexact H
    iexact Hz

/-- The start of a copy: group `g`'s column block goes on its way into buffer `s`. -/
theorem wp_copy (s : Fin 2) (g : Fin 4) (vs' : Fin 2 → VS) (hs : ∀ g, vs s ≠ .fly g) (h1 : vs' s = .fly g) (h2 : ∀ r, r ≠ s → vs' r = vs r)
    (hg : g ∈ home vs) (hh : home vs' = (home vs).erase g)
    {b : Fin 4} (hb : b = colBlk c g) {hsrc : (hV b).view.WordExact} {hdst : (wV s).view.WordExact}
    {hsem : DmaTarget.Typed .hbm (.dma (copyS s)) (.here (wV s) : DmaTarget nD τ sig .tc .vmem S4096x512 .bf16)}
    {α : Type} {Q : α → sProp 𝕄} {kont : PUnit → Prog (TpuEff nD τ sig (Elt F) Λ₀ .tc) α}
    (hk : St m K c k n v u t o vs' ⊢ WP c (kont ⟨⟩) Q) :
    St m K c k n v u t o vs ⊢ WP c (.op (.enqueueDma (hV b) (.here (wV s)) (.dma (copyS s)) hsrc hdst hsem) kont) Q := by
  subst hb
  have hX : St m K c k n v u t o vs ⊢ iprop((St m K c k n v u t o vs' -∗ WP c (kont ⟨⟩) Q) -∗
      WP c (.op (.enqueueDma (hV (colBlk c g)) (.here (wV s)) (.dma (copyS s)) hsrc hdst hsem) kont) Q) := by
    unfold St Wb
    rw [slots_at s vs, slots_at s vs', slots_rest h2, hh, bigSep_out hg, h1]
    iintro ⟨#HR, HO, HA, HY, HS, HV, HX, HB, ⟨Hh, Hhs⟩, Hs, Hss⟩
    ihave Hs' := (slot_idle s (vs s) hs) $$ Hs
    icases Hs' with ⟨⟨%X, Hd⟩, Hz⟩
    unfold owns
    icases Hd with ⟨%fd, -, Hd⟩
    iintro Hk
    iapply (Transfers.wp_dmaLocal EC 𝒱₀ (c : Thread nD τ) none (src := hV (colBlk c g)) (dst := wV s) (fs := wts m c) (sm := .dma (copyS s)) (fd := fd) (q := fullShare)
      () NW (credit_wV s) (View.dmaCredit_pos _ (by decide)) (Finset.Subset.refl _)) $$ [Hh Hd Hz]
    · isplitl [Hh]; · unfold Home; iexact Hh
      isplitl [Hd] <;> iassumption
    iintro Hf
    iapply Hk
    isplitr; · iexact HR
    isplitl [HO]; · iexact HO
    isplitl [HA]; · iexact HA
    isplitl [HY]; · iexact HY
    isplitl [HS]; · iexact HS
    isplitl [HV]; · iexact HV
    isplitl [HX]; · iexact HX
    isplitl [HB]; · iexact HB
    isplitl [Hhs]; · iexact Hhs
    isplitl [Hf]
    · unfold WSlot
      iapply (Flight_mono EC (c : Thread nD τ) ?_) $$ Hf
      unfold Home wblk
      iintro ⟨H1, H2⟩
      isplitl [H2]; · iexact H2
      ihave H := (owns_intro (c : Thread nD τ) (wV s) fullShare _) $$ H1
      rw [View.read_write_univ]
      iexact H
    iexact Hss
  iintro H
  iapply hX $$ H
  iintro H
  iapply hk $$ H

/-- The wait for it. -/
theorem wp_copied (s : Fin 2) (g : Fin 4) (vs' : Fin 2 → VS) (hs : vs s = .fly g) (h1 : vs' s = .full g) (h2 : ∀ r, r ≠ s → vs' r = vs r)
    (hg : g ∉ home vs) (hh : home vs' = insert g (home vs))
    {srcw : Memref sig .tc .hbm S4096x512 .bf16} {hsrc : srcw.view.WordExact} {hdst : (wV s).view.WordExact}
    {α : Type} {Q : α → sProp 𝕄} {kont : PUnit → Prog (TpuEff nD τ sig (Elt F) Λ₀ .tc) α}
    (hk : St m K c k n v u t o vs' ⊢ WP c (kont ⟨⟩) Q) :
    St m K c k n v u t o vs ⊢ WP c (.op (.waitDma2 (copyS s) srcw (wV s) hsrc hdst) kont) Q := by
  have hX : St m K c k n v u t o vs ⊢ iprop((St m K c k n v u t o vs' -∗ WP c (kont ⟨⟩) Q) -∗
      WP c (.op (.waitDma2 (copyS s) srcw (wV s) hsrc hdst) kont) Q) := by
    unfold St Ow Wb
    rw [slots_at s vs, slots_at s vs', slots_rest h2, hh, bigSep_in hg, h1, hs]
    iintro ⟨#HR, ⟨%W, HO⟩, HA, HY, HS, HV, HX, HB, Hhs, Hs, Hss⟩
    ihave #Hl := (Rec_lev m K) $$ HR
    unfold WSlot
    iintro Hk
    iapply (Transfers.wp_waitLocalO EC 𝒱₀ (c : Thread nD τ) none () (credit_wV s) (O := Oall c k n) (W := W)) $$ [Hs HO]
    · isplitl [Hs]; · iexact Hs
      isplitl [HO]; · iexact HO
      iapply (mayWait_low c (.dma (copyS s)) (by rw [kindOf_copy]; rfl) k n); iexact Hl
    iintro ⟨⟨Hh, Hd⟩, Hz, HO⟩
    iapply Hk
    isplitr; · iexact HR
    isplitl [HO]; · iexists _; iexact HO
    isplitl [HA]; · iexact HA
    isplitl [HY]; · iexact HY
    isplitl [HS]; · iexact HS
    isplitl [HV]; · iexact HV
    isplitl [HX]; · iexact HX
    isplitl [HB]; · iexact HB
    isplitl [Hhs Hh]
    · isplitl [Hh] <;> iassumption
    isplitl [Hd Hz]
    · isplitl [Hd] <;> iassumption
    iexact Hss
  iintro H
  iapply hX $$ H
  iintro H
  iapply hk $$ H

/-! ## The loads -/

/-- The rectangle of buffer `s` of weights, of landing slot `i`, with the axis of extent one. -/
abbrev wR (s : Fin 2) : Rect S2x4096x512 := Rect.unit (s := S2x4096x512) ![s.val, 0, 0] S1x4096x512.size (inbW s)
abbrev cR (i : Fin 16) : Rect S16x256x128 := Rect.unit (s := S16x256x128) ![i.val, 0, 0] S1x256x128.size (inbC i)

theorem wV_set (s : Fin 2) : (wV s).view.set = wM.view.setOn (wR s).toLoadRect.set := by
  rw [show (wV s).view.set = (wM.slice (wR s) (fun _ => rfl)).view.set from View.set_reshape _ _]
  exact View.set_slice _ _
theorem cV_set (i : Fin 16) : (cV i).view.set = cM.view.setOn (cR i).toLoadRect.set := by
  rw [show (cV i).view.set = (cM.slice (cR i) (fun _ => rfl)).view.set from View.set_reshape _ _]
  exact View.set_slice _ _

/-- A load of a whole slot is what the slot holds, with the axis in front. -/
theorem load_wV (s : Fin 2) (f : (wV s).view.ty.Contents (Elt F)) (X : S4096x512.Idx → Elt F .bf16) (h : (wV s).view.read (Elt F) f = X) :
    wM.view.readAt (Elt F) (wR s).toLoadRect f = shapeCast S1x4096x512 X casts_w := by
  subst h
  exact (shapeCast_shapeCast (wM.view.readAt (Elt F) (wR s).toLoadRect f) shapeCasts_S1x4096x512_S4096x512 casts_w).symm
theorem load_cV (i : Fin 16) (f : (cV i).view.ty.Contents (Elt F)) (X : S256x128.Idx → Elt F .bf16) (h : (cV i).view.read (Elt F) f = X) :
    cM.view.readAt (Elt F) (cR i).toLoadRect f = shapeCast S1x256x128 X casts_c := by
  subst h
  exact (shapeCast_shapeCast (cM.view.readAt (Elt F) (cR i).toLoadRect f) shapeCasts_S1x256x128_S256x128 casts_c).symm

theorem zero2 : (![0, 0] : Fin 2 → Nat) = fun _ => 0 := funext fun a => by fin_cases a <;> rfl

/-- The load of the device's rows of the input. -/
theorem wp_loadX {hi : ∀ a, (![0, 0] : Fin 2 → ℕ) a + S256x4096.size a ≤ S256x4096.size a}
    {hl : xM.view.LoadsAt (Rect.unit (s := S256x4096) ![0, 0] S256x4096.size hi).toLoadRect}
    {α : Type} {Q : α → sProp 𝕄} {kont : Vec F S256x4096 .bf16 → Prog (TpuEff nD τ sig (Elt F) Λ₀ .tc) α}
    (hk : St m K c k n v u t o vs ⊢ WP c (kont (xstg m c)) Q) :
    St m K c k n v u t o vs ⊢ WP c (.op (.load xM (Rect.unit (s := S256x4096) ![0, 0] S256x4096.size hi).toLoadRect hl) kont) Q := by
  have hX : St m K c k n v u t o vs ⊢ iprop((St m K c k n v u t o vs -∗ WP c (kont (xstg m c)) Q) -∗
      WP c (.op (.load xM (Rect.unit (s := S256x4096) ![0, 0] S256x4096.size hi).toLoadRect hl) kont) Q) := by
    unfold St Xin
    iintro ⟨#HR, HO, HA, HY, HS, HV, HX, HB, HW⟩ Hk
    iapply (wp_load 𝒱₀ (c : Thread nD τ) none Set.univ (m := xM) (Finset.subset_univ _)) $$ HX
    iintro HX
    rw [show xM.view.readAt (Elt F) (Rect.unit (s := S256x4096) ![0, 0] S256x4096.size hi).toLoadRect (xstg m c) = xstg m c
      from Memref.readAt_unit_zero (Elt F) cc0_stg0_0 zero2 _ _]
    iapply Hk
    isplitr; · iexact HR
    isplitl [HO]; · iexact HO
    isplitl [HA]; · iexact HA
    isplitl [HY]; · iexact HY
    isplitl [HS]; · iexact HS
    isplitl [HV]; · iexact HV
    isplitl [HX]; · iexact HX
    isplitl [HB] <;> iassumption
  iintro H
  iapply hX $$ H
  iintro H
  iapply hk $$ H

/-- The load of a column block of the weights. -/
theorem wp_loadW (s : Fin 2) (g : Fin 4) (hs : vs s = .full g) {hl : wM.view.LoadsAt (wR s).toLoadRect}
    {α : Type} {Q : α → sProp 𝕄} {kont : Vec F S1x4096x512 .bf16 → Prog (TpuEff nD τ sig (Elt F) Λ₀ .tc) α}
    (hk : St m K c k n v u t o vs ⊢ WP c (kont (wld m c g)) Q) :
    St m K c k n v u t o vs ⊢ WP c (.op (.load wM (wR s).toLoadRect hl) kont) Q := by
  have hX : St m K c k n v u t o vs ⊢ iprop((St m K c k n v u t o vs -∗ WP c (kont (wld m c g)) Q) -∗
      WP c (.op (.load wM (wR s).toLoadRect hl) kont) Q) := by
    unfold St Wb
    rw [slots_at s vs, hs]
    unfold WSlot owns
    iintro ⟨#HR, HO, HA, HY, HS, HV, HX, HB, Hh, ⟨⟨%f, %hf, Hd⟩, Hz⟩, Hss⟩ Hk
    iapply (wp_load 𝒱₀ (c : Thread nD τ) none Set.univ (m := wM) (S := (wV s).view.set) (wV_set s).ge) $$ Hd
    iintro Hd
    rw [show wM.view.readAt (Elt F) (wR s).toLoadRect f = wld m c g from load_wV s f _ hf]
    iapply Hk
    isplitr; · iexact HR
    isplitl [HO]; · iexact HO
    isplitl [HA]; · iexact HA
    isplitl [HY]; · iexact HY
    isplitl [HS]; · iexact HS
    isplitl [HV]; · iexact HV
    isplitl [HX]; · iexact HX
    isplitl [HB]; · iexact HB
    isplitl [Hh]; · iexact Hh
    isplitl [Hd Hz]
    · isplitl [Hd]
      · iexists f
        isplitr; · ipureintro; exact hf
        iexact Hd
      iexact Hz
    iexact Hss
  iintro H
  iapply hX $$ H
  iintro H
  iapply hk $$ H

/-- The load of a block that has landed. -/
theorem wp_loadC (i : Fin 16) (hi : i.val < t) {hl : cM.view.LoadsAt (cR i).toLoadRect}
    {α : Type} {Q : α → sProp 𝕄} {kont : Vec F S1x256x128 .bf16 → Prog (TpuEff nD τ sig (Elt F) Λ₀ .tc) α}
    (hk : St m K c k n v u t o vs ⊢ WP c (kont (shapeCast S1x256x128 (yblk m (src c i) c) casts_c)) Q) :
    St m K c k n v u t o vs ⊢ WP c (.op (.load cM (cR i).toLoadRect hl) kont) Q := by
  have hX : St m K c k n v u t o vs ⊢ iprop((St m K c k n v u t o vs -∗ WP c (kont (shapeCast S1x256x128 (yblk m (src c i) c) casts_c)) Q) -∗
      WP c (.op (.load cM (cR i).toLoadRect hl) kont) Q) := by
    unfold St Rcv
    rw [bigSep_out (mem_Below hi)]
    unfold recvPay owns
    iintro ⟨#HR, HO, HA, HY, HS, ⟨Hf, ⟨Hz, ⟨%f, %hf, Hd⟩⟩, Hb⟩, HX, HB, HW⟩ Hk
    iapply (wp_load 𝒱₀ (c : Thread nD τ) none Set.univ (m := cM) (S := (cV i).view.set) (cV_set i).ge) $$ Hd
    iintro Hd
    rw [load_cV i f _ hf]
    iapply Hk
    isplitr; · iexact HR
    isplitl [HO]; · iexact HO
    isplitl [HA]; · iexact HA
    isplitl [HY]; · iexact HY
    isplitl [HS]; · iexact HS
    isplitl [Hf Hd Hz Hb]
    · isplitl [Hf]; · iexact Hf
      isplitl [Hd Hz]
      · isplitl [Hz]; · iexact Hz
        iexists f
        isplitr; · ipureintro; exact hf
        iexact Hd
      iexact Hb
    isplitl [HX]; · iexact HX
    isplitl [HB] <;> iassumption
  iintro H
  iapply hX $$ H
  iintro H
  iapply hk $$ H

/-- A load of the outgoing buffer, of no account: what it reads is dropped. -/
theorem wp_loadY {r : Rect S4x256x512} (hr : ∀ x ∈ r.set, n ≤ wnum x) {hl : yM.view.LoadsAt r.toLoadRect}
    {α : Type} {Q : α → sProp 𝕄} {kont : (r.toLoadRect.shape.Idx → Elt F .bf16) → Prog (TpuEff nD τ sig (Elt F) Λ₀ .tc) α}
    (hk : ∀ w, St m K c k n v u t o vs ⊢ WP c (kont w) Q) :
    St m K c k n v u t o vs ⊢ WP c (.op (.load yM r.toLoadRect hl) kont) Q := by
  have hS : yM.view.setOn r.toLoadRect.set ⊆ ySet n := fun x hx => by
    obtain ⟨y, hy, rfl⟩ := Finset.mem_map.mp hx
    exact Finset.mem_filter.mpr ⟨Finset.mem_univ _, hr y hy⟩
  have hX : St m K c k n v u t o vs ⊢ iprop((∀ w, St m K c k n v u t o vs -∗ WP c (kont w) Q) -∗ WP c (.op (.load yM r.toLoadRect hl) kont) Q) := by
    unfold St Yb
    iintro ⟨#HR, HO, HA, ⟨%f, %hf, HY⟩, HS, HV, HX, HB, HW⟩ Hk
    iapply (wp_load 𝒱₀ (c : Thread nD τ) none Set.univ (m := yM) (S := ySet n) hS) $$ HY
    iintro HY
    iapply Hk
    isplitr; · iexact HR
    isplitl [HO]; · iexact HO
    isplitl [HA]; · iexact HA
    isplitl [HY]
    · iexists f
      isplitr; · ipureintro; exact hf
      iexact HY
    isplitl [HS]; · iexact HS
    isplitl [HV]; · iexact HV
    isplitl [HX]; · iexact HX
    isplitl [HB] <;> iassumption
  iintro H
  iapply hX $$ H
  iintro %w H
  iapply (hk w) $$ H

/-- A load of the result, of no account. -/
theorem wp_loadO {r : Rect S4096x128} {hl : oM.view.LoadsAt r.toLoadRect}
    {α : Type} {Q : α → sProp 𝕄} {kont : (r.toLoadRect.shape.Idx → Elt F .f32) → Prog (TpuEff nD τ sig (Elt F) Λ₀ .tc) α}
    (hk : ∀ w, St m K c k n v u t o vs ⊢ WP c (kont w) Q) :
    St m K c k n v u t o vs ⊢ WP c (.op (.load oM r.toLoadRect hl) kont) Q := by
  have hX : St m K c k n v u t o vs ⊢ iprop((∀ w, St m K c k n v u t o vs -∗ WP c (kont w) Q) -∗ WP c (.op (.load oM r.toLoadRect hl) kont) Q) := by
    unfold St Outb
    iintro ⟨#HR, HO, HA, HY, HS, HV, HX, ⟨%f, %hf, HB⟩, HW⟩ Hk
    iapply (wp_load 𝒱₀ (c : Thread nD τ) none Set.univ (m := oM) (Finset.subset_univ _)) $$ HB
    iintro HB
    iapply Hk
    isplitr; · iexact HR
    isplitl [HO]; · iexact HO
    isplitl [HA]; · iexact HA
    isplitl [HY]; · iexact HY
    isplitl [HS]; · iexact HS
    isplitl [HV]; · iexact HV
    isplitl [HX]; · iexact HX
    isplitl [HB]
    · iexists f
      isplitr; · ipureintro; exact hf
      iexact HB
    iexact HW
  iintro H
  iapply hX $$ H
  iintro %w H
  iapply (hk w) $$ H

end Cert.GemmProof
-- ==== Proof.Stores.lean ====
/-
# The stores

A store writes some windows of the outgoing buffer, or a row block of the result.
-/
module

public import proofs.«01_k».proof.Proof.Local

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {k n v u t o : ℕ} {vs : Fin 2 → VS}

/-- A store through a rectangle of unit strides: the element at `x` is the payload's at `x` less the rectangle's corner. -/
theorem store_at {b : Ref sig .tc} {off size : Fin b.ty.shape.rank → ℕ} {hi : ∀ a, off a + size a ≤ b.ty.shape.size a}
    (f : b.ty.Contents (Elt F)) (w : (Rect.unit (s := b.ty.shape) off size hi).shape.Idx → Elt F b.ty.elt) (x : b.ty.shape.Idx)
    (hx : ∀ a, off a ≤ (x a).val ∧ (x a).val < off a + size a) :
    ((Memref.whole b).access (Rect.unit (s := b.ty.shape) off size hi)).write (Elt F) f w Finset.univ x
      = w (fun a => ⟨(x a).val - off a, by have := hx a; show (x a).val - off a < size a; omega⟩) := by
  have h := ((Memref.whole b).access (Rect.unit (s := b.ty.shape) off size hi)).write_emb_of_mem (Val := Elt F) (f := f) (w := w) (M := Finset.univ)
    (x := fun a => ⟨(x a).val - off a, by have := hx a; show (x a).val - off a < size a; omega⟩) (Finset.mem_univ _)
  refine Eq.trans (congrArg _ ?_) h
  refine funext fun a => Fin.ext ?_
  show (x a).val = off a + 1 * ((x a).val - off a)
  have := hx a
  omega
/-- Elsewhere the buffer is as before. -/
theorem store_off {b : Ref sig .tc} {off size : Fin b.ty.shape.rank → ℕ} {hi : ∀ a, off a + size a ≤ b.ty.shape.size a}
    (f : b.ty.Contents (Elt F)) (w : (Rect.unit (s := b.ty.shape) off size hi).shape.Idx → Elt F b.ty.elt) (x : b.ty.shape.Idx)
    (hx : ¬ ∀ a, off a ≤ (x a).val ∧ (x a).val < off a + size a) :
    ((Memref.whole b).access (Rect.unit (s := b.ty.shape) off size hi)).write (Elt F) f w Finset.univ x = f x := by
  refine View.write_of_not_mem _ _ _ fun hm => hx ?_
  rw [show ((Memref.whole b).access (Rect.unit (s := b.ty.shape) off size hi)).setOn Finset.univ = (Rect.unit (s := b.ty.shape) off size hi).set
    from View.set_slice_whole _ _] at hm
  exact Rect.mem_set_unit.mp hm

/-! ## The outgoing buffer -/

/-- A store of windows not yet sent, which leaves the buffer written up to window `v'`. -/
theorem wp_storeY {r : Rect S4x256x512} {w : r.shape.Idx → Elt F .bf16} (v' : ℕ) (hr : ∀ x ∈ r.set, n ≤ wnum x)
    (hval : ∀ f : S4x256x512.Idx → Elt F .bf16, ∀ x, n ≤ wnum x → wnum x < v' → ((yM.access r).write (Elt F) f w Finset.univ) x = yfull m c x)
    {hx : (yM.access r).Stores Finset.univ} {hm : (Finset.univ : Finset r.shape.Idx) = Finset.univ ∨ ∀ a, r.stride a = 1}
    {α : Type} {Q : α → sProp 𝕄} {kont : PUnit → Prog (TpuEff nD τ sig (Elt F) Λ₀ .tc) α}
    (hk : St m K c k n v' u t o vs ⊢ WP c (kont ⟨⟩) Q) :
    St m K c k n v u t o vs ⊢ WP c (.op (.store yM r w Finset.univ hx hm) kont) Q := by
  have hS : (yM.access r).setOn Finset.univ ⊆ ySet n := fun x hx => by
    rw [show (yM.access r).setOn Finset.univ = r.set from View.set_slice_whole _ _] at hx
    exact Finset.mem_filter.mpr ⟨Finset.mem_univ _, hr x hx⟩
  have hX : St m K c k n v u t o vs ⊢ iprop((St m K c k n v' u t o vs -∗ WP c (kont ⟨⟩) Q) -∗ WP c (.op (.store yM r w Finset.univ hx hm) kont) Q) := by
    unfold St Yb
    iintro ⟨#HR, HO, HA, ⟨%f, -, HY⟩, HS, HV, HX, HB, HW⟩ Hk
    iapply (wp_store 𝒱₀ (c : Thread nD τ) none Set.univ (m := yM) (r := r) (Mk := Finset.univ) (S := ySet n) hS) $$ HY
    iintro HY
    iapply Hk
    isplitr; · iexact HR
    isplitl [HO]; · iexact HO
    isplitl [HA]; · iexact HA
    isplitl [HY]
    · iexists ((yM.access r).write (Elt F) f w Finset.univ)
      isplitr; · ipureintro; exact hval f
      iexact HY
    isplitl [HS]; · iexact HS
    isplitl [HV]; · iexact HV
    isplitl [HX]; · iexact HX
    isplitl [HB] <;> iassumption
  iintro H
  iapply hX $$ H
  iintro H
  iapply hk $$ H

/-- Half `h` of group `g`, its first window the next to send. -/
abbrev hR (g h : ℕ) (hi : ∀ a, (![g, 0, 256 * h] : Fin 3 → ℕ) a + S1x256x256.size a ≤ S4x256x512.size a) : Rect S4x256x512 :=
  Rect.unit (s := S4x256x512) ![g, 0, 256 * h] S1x256x256.size hi
/-- Group `g`. -/
abbrev gR (g : ℕ) (hi : ∀ a, (![g, 0, 0] : Fin 3 → ℕ) a + S1x256x512.size a ≤ S4x256x512.size a) : Rect S4x256x512 :=
  Rect.unit (s := S4x256x512) ![g, 0, 0] S1x256x512.size hi

theorem mem_hR {g h : ℕ} {hi} (hn : n ≤ 4 * g + 2 * h) : ∀ x ∈ (hR g h hi).set, n ≤ wnum x := fun x hx => by
  have h := Rect.mem_set_unit.mp hx
  have h0 : g ≤ (x 0).val := (h 0).1
  have h2 : 256 * _ ≤ (x 2).val := (h 2).1
  unfold wnum; omega
theorem mem_gR {g : ℕ} {hi} (hn : n ≤ 4 * g) : ∀ x ∈ (gR g hi).set, n ≤ wnum x := fun x hx => by
  have h := Rect.mem_set_unit.mp hx
  have h0 : g ≤ (x 0).val := (h 0).1
  unfold wnum; omega

theorem wp_storeHalf (g h : ℕ) {hi : ∀ a, (![g, 0, 256 * h] : Fin 3 → ℕ) a + S1x256x256.size a ≤ S4x256x512.size a} {w : FVec F S1x256x256 .bf16}
    (hh : h < 2) (hn : n = 4 * g + 2 * h) (v' : ℕ) (hv : v' = n + 2) (hw : ∀ r q, q / 256 = h → ygrp m c g r q = at256 w r q)
    {hx : (yM.access (hR g h hi)).Stores Finset.univ} {hm : (Finset.univ : Finset (hR g h hi).shape.Idx) = Finset.univ ∨ ∀ a, (hR g h hi).stride a = 1}
    {α : Type} {Q : α → sProp 𝕄} {kont : PUnit → Prog (TpuEff nD τ sig (Elt F) Λ₀ .tc) α}
    (hk : St m K c k n v' u t o vs ⊢ WP c (kont ⟨⟩) Q) :
    St m K c k n v u t o vs ⊢ WP c (.op (.store yM (hR g h hi) w Finset.univ hx hm) kont) Q := by
  refine wp_storeY (r := hR g h hi) (w := w) v' (mem_hR hn.le) (fun f x h1 h2 => ?_) hk
  have hx1 : (x 1).val < 256 := (x 1).isLt
  have hx2 : (x 2).val < 512 := (x 2).isLt
  have hw1 : n ≤ 4 * (x 0).val + (x 2).val / 128 := h1
  have hw2 : 4 * (x 0).val + (x 2).val / 128 < v' := h2
  have h0 : (x 0).val = g := by omega
  have h3 : (x 2).val / 256 = h := by omega
  have hy : yfull m c x = at256 w (x 1) (x 2).val := by
    unfold yfull
    rw [h0]
    exact hw _ _ h3
  refine (store_at (b := cc0_scratch1) (off := ![g, 0, 256 * h]) (size := S1x256x256.size) (hi := hi) f w x (fun a => ?_)).trans (Eq.trans ?_ hy.symm)
  · match a with
    | ⟨0, _⟩ => show g ≤ (x 0).val ∧ (x 0).val < g + 1; omega
    | ⟨1, _⟩ => show 0 ≤ (x 1).val ∧ (x 1).val < 0 + 256; omega
    | ⟨2, _⟩ => show 256 * h ≤ (x 2).val ∧ (x 2).val < 256 * h + 256; omega
  · unfold at256
    refine congrArg w (funext fun a => Fin.ext ?_)
    match a with
    | ⟨0, _⟩ => show (x 0).val - g = 0; omega
    | ⟨1, _⟩ => show (x 1).val - 0 = (x 1).val; omega
    | ⟨2, _⟩ => show (x 2).val - 256 * h = (x 2).val % 256; omega

theorem wp_storeGroup (g : ℕ) {hi : ∀ a, (![g, 0, 0] : Fin 3 → ℕ) a + S1x256x512.size a ≤ S4x256x512.size a} {w : FVec F S1x256x512 .bf16}
    (hn : n = 4 * g) (v' : ℕ) (hv : v' = n + 4) (hw : ∀ r q, ygrp m c g r q = at512 w r q)
    {hx : (yM.access (gR g hi)).Stores Finset.univ} {hm : (Finset.univ : Finset (gR g hi).shape.Idx) = Finset.univ ∨ ∀ a, (gR g hi).stride a = 1}
    {α : Type} {Q : α → sProp 𝕄} {kont : PUnit → Prog (TpuEff nD τ sig (Elt F) Λ₀ .tc) α}
    (hk : St m K c k n v' u t o vs ⊢ WP c (kont ⟨⟩) Q) :
    St m K c k n v u t o vs ⊢ WP c (.op (.store yM (gR g hi) w Finset.univ hx hm) kont) Q := by
  refine wp_storeY (r := gR g hi) (w := w) v' (mem_gR hn.le) (fun f x h1 h2 => ?_) hk
  have hx1 : (x 1).val < 256 := (x 1).isLt
  have hx2 : (x 2).val < 512 := (x 2).isLt
  have hw1 : n ≤ 4 * (x 0).val + (x 2).val / 128 := h1
  have hw2 : 4 * (x 0).val + (x 2).val / 128 < v' := h2
  have h0 : (x 0).val = g := by omega
  have hy : yfull m c x = at512 w (x 1) (x 2).val := by
    unfold yfull
    rw [h0]
    exact hw _ _
  refine (store_at (b := cc0_scratch1) (off := ![g, 0, 0]) (size := S1x256x512.size) (hi := hi) f w x (fun a => ?_)).trans (Eq.trans ?_ hy.symm)
  · match a with
    | ⟨0, _⟩ => show g ≤ (x 0).val ∧ (x 0).val < g + 1; omega
    | ⟨1, _⟩ => show 0 ≤ (x 1).val ∧ (x 1).val < 0 + 256; omega
    | ⟨2, _⟩ => show 0 ≤ (x 2).val ∧ (x 2).val < 0 + 512; omega
  · unfold at512
    refine congrArg w (funext fun a => Fin.ext ?_)
    match a with
    | ⟨0, _⟩ => show (x 0).val - g = 0; omega
    | ⟨1, _⟩ => show (x 1).val - 0 = (x 1).val; omega
    | ⟨2, _⟩ => show (x 2).val - 0 = (x 2).val % 512; omega

/-! ## The result -/

abbrev oR (d : Fin 16) : Rect S4096x128 := Rect.unit (s := S4096x128) ![256 * d.val, 0] S256x128.size (inbO d)

/-- A row block that came from the sender in slot `i`: where the result is right after it. -/
theorem store_block (c : Dev nD) (i : Fin 16) (f : S4096x128.Idx → Elt F .f32) (hf : ∀ p, (slot (rowDev p) c).val < i.val → f p = outAt m c p)
    (p : S4096x128.Idx) (hp : (slot (rowDev p) c).val < i.val + 1) :
    (oM.access (oR (src c i))).write (Elt F) f (k0_pay16 (shapeCast S1x256x128 (yblk m (src c i) c) casts_c)) Finset.univ p = outAt m c p := by
  have hp0 : (p 0).val < 4096 := (p 0).isLt
  have hp1 : (p 1).val < 128 := (p 1).isLt
  by_cases he : slot (rowDev p) c = i
  · have hd : rowDev p = src c i := by rw [← he, src_slot]
    have hd0 : (p 0).val / 256 = (src c i).val := congrArg Fin.val hd
    refine (store_at (b := cc0_stg1_0) f _ p (fun a => ?_)).trans ?_
    · match a with
      | ⟨0, _⟩ => show 256 * (src c i).val ≤ (p 0).val ∧ (p 0).val < 256 * (src c i).val + 256; omega
      | ⟨1, _⟩ => show 0 ≤ (p 1).val ∧ (p 1).val < 0 + 128; omega
    · unfold outAt
      rw [hd]
      refine congrArg _ (funext fun a => Fin.ext ?_)
      match a with
      | ⟨0, _⟩ => show (p 0).val - 256 * (src c i).val = (p 0).val % 256; omega
      | ⟨1, _⟩ => show (p 1).val - 0 = (p 1).val; omega
  · have hv : (slot (rowDev p) c).val ≠ i.val := fun h => he (Fin.ext h)
    refine (store_off (b := cc0_stg1_0) f _ p (fun h => he ?_)).trans (hf p (by omega))
    have h0 : 256 * (src c i).val ≤ (p 0).val ∧ (p 0).val < 256 * (src c i).val + 256 := h 0
    have hd : rowDev p = src c i := Fin.ext (by show (p 0).val / 256 = _; omega)
    rw [hd, slot_src]

theorem wp_storeO (i : Fin 16) {w : FVec F S256x128 .f32} (hw : w = k0_pay16 (shapeCast S1x256x128 (yblk m (src c i) c) casts_c))
    {hx : (oM.access (oR (src c i))).Stores Finset.univ} {hm : (Finset.univ : Finset (oR (src c i)).shape.Idx) = Finset.univ ∨ ∀ a, (oR (src c i)).stride a = 1}
    {α : Type} {Q : α → sProp 𝕄} {kont : PUnit → Prog (TpuEff nD τ sig (Elt F) Λ₀ .tc) α}
    (hk : St m K c k n v u t (i.val + 1) vs ⊢ WP c (kont ⟨⟩) Q) :
    St m K c k n v u t i.val vs ⊢ WP c (.op (.store oM (oR (src c i)) w Finset.univ hx hm) kont) Q := by
  subst hw
  have hX : St m K c k n v u t i.val vs ⊢ iprop((St m K c k n v u t (i.val + 1) vs -∗ WP c (kont ⟨⟩) Q) -∗
      WP c (.op (.store oM (oR (src c i)) (k0_pay16 (shapeCast S1x256x128 (yblk m (src c i) c) casts_c)) Finset.univ hx hm) kont) Q) := by
    unfold St Outb
    iintro ⟨#HR, HO, HA, HY, HS, HV, HX, ⟨%f, %hf, HB⟩, HW⟩ Hk
    iapply (wp_store 𝒱₀ (c : Thread nD τ) none Set.univ (m := oM) (r := oR (src c i)) (Mk := Finset.univ) (Finset.subset_univ _)) $$ HB
    iintro HB
    iapply Hk
    isplitr; · iexact HR
    isplitl [HO]; · iexact HO
    isplitl [HA]; · iexact HA
    isplitl [HY]; · iexact HY
    isplitl [HS]; · iexact HS
    isplitl [HV]; · iexact HV
    isplitl [HX]; · iexact HX
    isplitl [HB]
    · iexists _
      isplitr
      · ipureintro; exact store_block c i f hf
      iexact HB
    iexact HW
  iintro H
  iapply hX $$ H
  iintro H
  iapply hk $$ H

end Cert.GemmProof
-- ==== Proof.Comm.lean ====
/-
# The steps that talk to other devices

Each says: from one state, an operation leads to the next. They are stated for a program that begins with the operation,
so that a proof of a stretch of program is a chain of them.
-/
module

public import proofs.«01_k».proof.Proof.State

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {k n v u t o : ℕ} {vs : Fin 2 → VS}

/-! ## The signals -/

/-- A signal: the landing slot of its own that device `e` will write goes to `e`. -/
theorem wp_sig (e : Dev nD) (h : c ≠ e) {α : Type} {Q : α → sProp 𝕄} {kont : PUnit → Prog (TpuEff nD τ sig (Elt F) Λ₀ .tc) α}
    (hk : St m K c (e.val + 1) n v u t o vs ⊢ WP c (kont ⟨⟩) Q) :
    St m K c e.val n v u t o vs ⊢ WP c (.op (.semSignal (Dev.tc e) barS (1#32 : BitVec 32).toInt) kont) Q := by
  have hlt : e.val < 16 := e.isLt
  have hX : St m K c e.val n v u t o vs ⊢ iprop((St m K c (e.val + 1) n v u t o vs -∗ WP c (kont ⟨⟩) Q) -∗ WP c (.op (.semSignal (Dev.tc e) barS (1#32 : BitVec 32).toInt) kont) Q) := by
    unfold St Ow Bar
    rw [if_pos (by omega), if_pos (by omega)]
    unfold Bar0
    rw [From_eq e, bigSep_in (not_mem_From e), show (SigRes c e : sProp 𝕄) = iprop(dutyTok ER (barCell e) 0 c ∗ barPay e c) from if_neg h.symm]
    iintro ⟨#HR, ⟨%W, HO⟩, ⟨Hat, Hc, Hown, ⟨Ht, Hp⟩, Hs⟩, HY, HS, HV, HX, HB, HW⟩
    ihave #HI := (Rec_inv m K (e, .inl ())) $$ HR
    ihave #Hr := (Rec_reached m K (e, .inl ())) $$ HR
    iintro Hk
    iapply (Rounds.wp_signal 𝒱₀ ER (meshRd m) (c : Thread nD τ) none (dst := (e : Thread nD τ)) (κ := K (e, .inl ()))
      (d := c) (by rw [duties_bar]; exact Finset.mem_erase.mpr ⟨h, Finset.mem_univ _⟩) ((amount_bar m e c).trans (by decide)) () (O₀ := Oall c e.val n) (Oall c (e.val + 1) n)
        (by unfold Oall; rw [Obar_step c e h, add_assoc, show (1#32 : BitVec 32).toNat = 1 from by decide]) (W := W)) $$ [HO Ht Hp]
    · isplitr; · iexact HI
      isplitl [HO]; · iexact HO
      isplitl [Ht]; · iexact Ht
      isplitl [Hp]; · rw [payload_bar]; iexact Hp
      iexact Hr
    iintro HO
    iapply Hk
    isplitr; · iexact HR
    isplitl [HO]; · iexists W; iexact HO
    isplitl [Hat Hc Hown Hs]
    · isplitl [Hat]; · iexact Hat
      isplitl [Hc]; · iexact Hc
      isplitl [Hown] <;> iassumption
    isplitl [HY]; · iexact HY
    isplitl [HS]; · iexact HS
    isplitl [HV]; · iexact HV
    isplitl [HX]; · iexact HX
    isplitl [HB] <;> iassumption
  iintro H
  iapply hX $$ H
  iintro H
  iapply hk $$ H

/-- The device itself gets none. -/
theorem self_sig (hc : k = c.val) : St m K c k n v u t o vs ⊢ St m K c (c.val + 1) n v u t o vs := by
  subst hc
  have hlt : c.val < 16 := c.isLt
  unfold St Ow Bar
  rw [if_pos (by omega), if_pos (by omega)]
  unfold Bar0 Oall
  rw [From_eq c, bigSep_in (not_mem_From c), show (SigRes c c : sProp 𝕄) = iprop(emp) from if_pos rfl, Obar_self]
  iintro ⟨#HR, HO, ⟨Hat, Hc, Hown, -, Hs⟩, HY, HS, HV, HX, HB, HW⟩
  isplitr; · iexact HR
  isplitl [HO]; · iexact HO
  isplitl [Hat Hc Hown Hs]
  · isplitl [Hat]; · iexact Hat
    isplitl [Hc]; · iexact Hc
    isplitl [Hown] <;> iassumption
  isplitl [HY]; · iexact HY
  isplitl [HS]; · iexact HS
  isplitl [HV]; · iexact HV
  isplitl [HX]; · iexact HX
  isplitl [HB] <;> iassumption

/-- The signal to device `e`, made when the device is another, and then the rest of the program. -/
theorem step_sig (e : Dev nD) {cond : BitVec 1} (hc : cond = 1#1 ↔ c ≠ e) {dv : cond = 1#1 → Dev nD} (hd : ∀ h, dv h = e) (hn : k = e.val)
    {α : Type} {Q : α → sProp 𝕄} {rest : Prog (TpuEff nD τ sig (Elt F) Λ₀ .tc) α}
    (hk : St m K c (k + 1) n v u t o vs ⊢ WP c rest Q) :
    St m K c k n v u t o vs ⊢ WP c (if h : cond = 1#1 then (.op (.semSignal (Dev.tc (dv h)) barS (1#32 : BitVec 32).toInt) fun _ => rest) else rest) Q := by
  subst hn
  by_cases h : cond = 1#1
  · rw [dif_pos h, hd h]
    exact wp_sig e (hc.mp h) hk
  · rw [dif_neg h]
    have he : c = e := by by_contra hne; exact h (hc.mpr hne)
    subst he
    exact (self_sig rfl).trans hk

/-! ## The barrier -/

/-- All the others' slots, by send. -/
theorem landing_slots (c : Dev nD) : iprop((barPay c c : sProp 𝕄) ∗ bigSep (Finset.univ.erase c) fun d => barPay c d) ⊢ bigSep (From 0) fun i => barPay c (dst c i) := by
  rw [← bigSep_out (Finset.mem_univ c) (Φ := fun d => (barPay c d : sProp 𝕄)), From_zero,
    bigSep_univ_equiv (sends c) (fun d => (barPay c d : sProp 𝕄))]
  exact BI.Entails.refl _

/-- The wait for all fifteen signals. -/
theorem step_barrier {α : Type} {Q : α → sProp 𝕄} {kont : PUnit → Prog (TpuEff nD τ sig (Elt F) Λ₀ .tc) α}
    (hk : St m K c 17 0 v u t o vs ⊢ WP c (kont ⟨⟩) Q) :
    St m K c 16 0 v u t o vs ⊢ WP c (.op (.semWait barS (15#32 : BitVec 32).toInt) kont) Q := by
  have hX : St m K c 16 0 v u t o vs ⊢ iprop((St m K c 17 0 v u t o vs -∗ WP c (kont ⟨⟩) Q) -∗ WP c (.op (.semWait barS (15#32 : BitVec 32).toInt) kont) Q) := by
    unfold St Ow Bar
    rw [if_pos (by omega), if_neg (by omega)]
    unfold Bar0 Bar1
    iintro ⟨#HR, ⟨%W, HO⟩, ⟨Hat, Hc, Hown, -⟩, HY, HS, HV, HX, HB, HW⟩
    ihave #HI := (Rec_inv m K (c, .inl ())) $$ HR
    ihave #Hl := (Rec_lev m K) $$ HR
    iintro Hk
    iapply (Rounds.wp_wait_rest_token 𝒱₀ ER (meshRd m) (c : Thread nD τ) none (κ := K (c, .inl ()))
      (wpE_semWait_eq 𝒱₀ (c : Thread nD τ) none Set.univ) (Set.mem_univ _) () (O := Oall c 16 0) (W := W) (R := 0) (m := 0) (T := ∅)
      (by rw [expect_bar]; decide)) $$ [Hc HO Hat]
    · isplitr; · iexact HI
      isplitl [Hc]; · iexact Hc
      isplitl [HO]; · iexact HO
      isplitr; · iapply (mayWait_bar c 16 0 (by omega)); iexact Hl
      iexact Hat
    iintro ⟨HO, Hat, -, Hpay⟩
    ihave Hp := (Entails.of_eq (rest_bar m c)) $$ Hpay
    imod (Rounds.cell_close ER (meshRd m) (Set.mem_univ (K (c, .inl ()))) (fun h => h) (R := 0 + 1) (duties_later m (barCell c))) $$ [Hat] with Hz
    · isplitr; · iexact HI
      iexact Hat
    iapply Hk
    isplitr; · iexact HR
    isplitl [HO]
    · iexists (insert (SemLoc.reg barS, ()) W)
      rw [Oall_bar c 17 0 (by omega), Oall_bar c 16 0 (by omega)]
      iexact HO
    isplitl [Hz Hown Hp]
    · isplitl [Hz]; · iexact Hz
      iapply (landing_slots c)
      isplitl [Hown] <;> iassumption
    isplitl [HY]; · iexact HY
    isplitl [HS]; · iexact HS
    isplitl [HV]; · iexact HV
    isplitl [HX]; · iexact HX
    isplitl [HB] <;> iassumption
  iintro H
  iapply hX $$ H
  iintro H
  iapply hk $$ H

/-! ## The sends -/

/-- What a window holds is what goes out. -/
theorem window_read (c : Dev nD) (i : Fin 16) (f : S4x256x512.Idx → Elt F .bf16) (hf : ∀ x, i.val ≤ wnum x → wnum x < v → f x = yfull m c x) (hv : i.val < v) :
    (yV i).view.read (Elt F) f = yblk m c (dst c i) := by
  unfold yblk
  rw [sendTo_dst]
  refine View.read_congr (Val := Elt F) fun x hx => ?_
  have h : wnum x = i.val := (mem_yV i x).mp hx
  exact hf x (by omega) (by omega)

theorem ySet_sub (i : Fin 16) : ((yV i).view.set : Finset S4x256x512.Idx) ⊆ ySet i.val := fun x hx => by
  have h : wnum x = i.val := (mem_yV i x).mp hx
  exact Finset.mem_filter.mpr ⟨Finset.mem_univ _, by omega⟩
theorem ySet_diff (i : Fin 16) : ySet i.val \ ((yV i).view.set : Finset S4x256x512.Idx) = ySet (i.val + 1) := by
  ext x
  rw [Finset.mem_sdiff, mem_yV, ySet, ySet, Finset.mem_filter, Finset.mem_filter]
  constructor
  · rintro ⟨⟨h, h1⟩, h2⟩; exact ⟨h, by omega⟩
  · rintro ⟨h, h1⟩; exact ⟨⟨h, by omega⟩, by omega⟩

/-- The next window leaves the outgoing buffer. -/
theorem Yb_take (c : Dev nD) (i : Fin 16) (hv : i.val < v) : Yb m c i.val v ⊢
    iprop((∃ f : S4x256x512.Idx → Elt F .bf16, ⌜(yV i).view.read (Elt F) f = yblk m c (dst c i)⌝ ∗ ((yV i).view.loc (c : Thread nD τ) ↦[(yV i).view.set]{fullShare} f)) ∗ Yb m c (i.val + 1) v) := by
  unfold Yb
  iintro ⟨%f, %hf, H⟩
  ihave H' := ((pointsTo_split_subset (ySet_sub i)).1) $$ H
  icases H' with ⟨H1, H2⟩
  rw [ySet_diff i]
  isplitl [H1]
  · iexists f
    isplitr; · ipureintro; exact window_read c i f hf hv
    iexact H1
  · iexists f
    isplitr; · ipureintro; exact fun x h1 h2 => hf x (by omega) h2
    iexact H2

theorem landings_tsl (c : Dev nD) (i : Fin 16) : (landings c).symm (tsl c i) = i := (landings c).symm_apply_apply i

/-- Every landing slot counts the same. -/
theorem amount_cV (j : Fin 16) : (cV j).view.amount (.dma (recvS j)) = N := rfl

/-- A copy to another device: the window goes out, the landing slot there will hold it. -/
theorem wp_send (i : Fin 16) (e : Dev nD) (he : e = dst c i) (j : Fin 16) (hj : j = tsl c i) (hv : i.val < v)
    {hsc : (cV j).view.ref.isScScratch = false}
    {hsrc : (yV i).view.WordExact} {hdst : (cV j).view.WordExact}
    {hsem : DmaTarget.Typed .vmem (.dma (recvS j)) (.remote (Dev.tc e : Thread nD τ) (cV j) (.dma (sendS j)) hsc)}
    {α : Type} {Q : α → sProp 𝕄} {kont : PUnit → Prog (TpuEff nD τ sig (Elt F) Λ₀ .tc) α}
    (hk : St m K c 17 (i.val + 1) v 0 t o vs ⊢ WP c (kont ⟨⟩) Q) :
    St m K c 17 i.val v 0 t o vs ⊢ WP c (.op (.enqueueDma (yV i) (.remote (Dev.tc e : Thread nD τ) (cV j) (.dma (sendS j)) hsc) (.dma (recvS j)) hsrc hdst hsem) kont) Q := by
  subst hj he
  have hX : St m K c 17 i.val v 0 t o vs ⊢ iprop((St m K c 17 (i.val + 1) v 0 t o vs -∗ WP c (kont ⟨⟩) Q) -∗
      WP c (.op (.enqueueDma (yV i) (.remote (Dev.tc (dst c i) : Thread nD τ) (cV (tsl c i)) (.dma (sendS (tsl c i))) hsc) (.dma (recvS (tsl c i))) hsrc hdst hsem) kont) Q) := by
    unfold St Ow Bar
    rw [if_neg (by omega), if_neg (by omega)]
    unfold Bar1 Snd
    rw [From_eq i, bigSep_in (not_mem_From i), bigSep_in (not_mem_From i), Mid_last i, bigSep_in (not_mem_Mid_last i)]
    iintro ⟨#HR, ⟨%W, HO⟩, ⟨Hz, Hslot, Hslots⟩, HY, ⟨⟨⟨Ht1, Ht2⟩, Hts⟩, Hcr, HS⟩, HV, HX, HB, HW⟩
    ihave #HI1 := (Rec_inv m K (c, .inr (.inl (tsl c i)))) $$ HR
    ihave #HI2 := (Rec_inv m K (dst c i, .inr (.inr (tsl c i)))) $$ HR
    ihave #Hr1 := (Rec_reached m K (c, .inr (.inl (tsl c i)))) $$ HR
    ihave #Hr2 := (Rec_reached m K (dst c i, .inr (.inr (tsl c i)))) $$ HR
    ihave HY' := (Yb_take c i hv) $$ HY
    icases HY' with ⟨⟨%f, %hf, Hsrc⟩, HY⟩
    unfold barPay
    rw [slot_dst]
    icases Hslot with ⟨%X, Hslot⟩
    unfold owns
    icases Hslot with ⟨%fd, -, Hdst⟩
    iintro Hk
    iapply (Rounds.wp_send_pointsTo 𝒱₀ ER (meshRd m) (c : Thread nD τ) none (c' := (dst c i : Thread nD τ)) (src := yV i) (dst := cV (tsl c i)) (κ₁ := K (c, .inr (.inl (tsl c i)))) (κ₂ := K (dst c i, .inr (.inr (tsl c i))))
      (r₁ := 0) (r₂ := 0) (d₁ := 0) (d₂ := 0) (fd := fd)
      (by rw [duties_send]; exact Finset.mem_singleton_self _) (by rw [duties_recv]; exact Finset.mem_singleton_self _)
      () () N (amount_cV (tsl c i)) (amount_send m c (tsl c i) 0) (amount_recv m (dst c i) (tsl c i) 0) (O₀ := Oall c 17 i.val) (Oall c 17 (i.val + 1))
      (by rw [Oall_bar c 17 _ (by omega), Oall_bar c 17 _ (by omega)]; exact Orecv_step c i) (W := W)
      (by rw [payload_send]; unfold sendPay; rw [landings_tsl]; iintro H; iexists f; iexact H)
      (by
        rw [payload_recv]; unfold recvPay
        rw [src_tsl, hf]
        refine (owns_intro _ _ _ _).trans ?_
        rw [View.read_write_univ])) $$ [Hsrc Hdst HO Ht1 Ht2]
    · isplitr; · iexact HI1
      isplitr; · iexact HI2
      isplitl [Hsrc]; · iexact Hsrc
      isplitl [Hdst]; · iexact Hdst
      isplitl [HO]; · iexact HO
      isplitl [Ht1]; · iexact Ht1
      isplitr; · iexact Hr1
      isplitl [Ht2]; · iexact Ht2
      iexact Hr2
    iintro ⟨Hc, HO⟩
    iapply Hk
    isplitr; · iexact HR
    isplitl [HO]; · iexists W; iexact HO
    isplitl [Hz Hslots]
    · isplitl [Hz] <;> iassumption
    isplitl [HY]; · iexact HY
    isplitl [Hts Hcr Hc HS]
    · isplitl [Hts]; · iexact Hts
      isplitl [Hcr Hc]
      · isplitl [Hc] <;> iassumption
      iexact HS
    isplitl [HV]; · iexact HV
    isplitl [HX]; · iexact HX
    isplitl [HB] <;> iassumption
  iintro H
  iapply hX $$ H
  iintro H
  iapply hk $$ H

end Cert.GemmProof
-- ==== Proof.Waits.lean ====
/-
# The waits for the copies between devices

A landing's wait brings the sender's block; a send's wait brings back the window it read.
-/
module

public import proofs.«01_k».proof.Proof.Comm

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {k n v u t o : ℕ} {vs : Fin 2 → VS}

/-- A wait for a landing: the sender's block is there. -/
theorem step_recv (i : Fin 16) {srcw : Memref sig .tc .vmem S256x128 .bf16} {hsrc : srcw.view.WordExact} {hdst : (cV i).view.WordExact}
    {α : Type} {Q : α → sProp 𝕄} {kont : PUnit → Prog (TpuEff nD τ sig (Elt F) Λ₀ .tc) α}
    (hk : St m K c 17 16 v u (i.val + 1) o vs ⊢ WP c (kont ⟨⟩) Q) :
    St m K c 17 16 v u i.val o vs ⊢ WP c (.op (.waitDma2 (recvS i) srcw (cV i) hsrc hdst) kont) Q := by
  have hX : St m K c 17 16 v u i.val o vs ⊢ iprop((St m K c 17 16 v u (i.val + 1) o vs -∗ WP c (kont ⟨⟩) Q) -∗
      WP c (.op (.waitDma2 (recvS i) srcw (cV i) hsrc hdst) kont) Q) := by
    unfold St Ow Rcv
    rw [From_eq i, bigSep_in (not_mem_From i), Below_eq i, bigSep_in (not_mem_Below i), Oall_last c 17 (by omega)]
    iintro ⟨#HR, ⟨%W, HO⟩, HA, HY, HS, ⟨⟨⟨Hat, Hc⟩, Hf⟩, Hb⟩, HX, HB, HW⟩
    ihave #HI := (Rec_inv m K (c, .inr (.inr i))) $$ HR
    iintro Hk
    iapply (Rounds.wp_wait_rest_token 𝒱₀ ER (meshRd m) (c : Thread nD τ) none (κ := K (c, .inr (.inr i)))
      (wpE_waitDma2_eq 𝒱₀ (c : Thread nD τ) none Set.univ) (Set.mem_univ _) () (O := 0) (W := W) (R := 0) (m := 0) (T := ∅)
      (by rw [Nat.zero_add, expect_recv])) $$ [Hc HO Hat]
    · isplitr; · iexact HI
      isplitl [Hc]; · iexact Hc
      isplitl [HO]; · iexact HO
      isplitr; · rw [MayWait_zero]; iempintro
      iexact Hat
    iintro ⟨HO, Hat, -, Hpay⟩
    ihave Hp := (Entails.of_eq (rest_recv m c i)) $$ Hpay
    imod (Rounds.cell_close ER (meshRd m) (Set.mem_univ (K (c, .inr (.inr i)))) (fun h => h) (R := 0 + 1) (duties_later m (recvCell c i))) $$ [Hat] with Hz
    · isplitr; · iexact HI
      iexact Hat
    iapply Hk
    isplitr; · iexact HR
    isplitl [HO]; · iexists (insert (SemLoc.dma (recvS i), ()) W); iexact HO
    isplitl [HA]; · iexact HA
    isplitl [HY]; · iexact HY
    isplitl [HS]; · iexact HS
    isplitl [Hf Hb Hz Hp]
    · isplitl [Hf]; · iexact Hf
      isplitl [Hz Hp]
      · isplitl [Hz] <;> iassumption
      iexact Hb
    isplitl [HX]; · iexact HX
    isplitl [HB] <;> iassumption
  iintro H
  iapply hX $$ H
  iintro H
  iapply hk $$ H

/-- A window counts as a landing slot does. -/
theorem credit_yV (i : Fin 16) : (yV i).view.dmaCredit = N := rfl

/-- A wait for a send: the window is back. -/
theorem wp_sent (i : Fin 16) (j : Fin 16) (hj : j = tsl c i) {srcw : Memref sig .tc .vmem S256x128 .bf16} {hsrc : srcw.view.WordExact} {hdst : (yV i).view.WordExact}
    {α : Type} {Q : α → sProp 𝕄} {kont : PUnit → Prog (TpuEff nD τ sig (Elt F) Λ₀ .tc) α}
    (hk : St m K c 17 16 v (i.val + 1) t o vs ⊢ WP c (kont ⟨⟩) Q) :
    St m K c 17 16 v i.val t o vs ⊢ WP c (.op (.waitDma2 (sendS j) srcw (yV i) hsrc hdst) kont) Q := by
  subst hj
  have hX : St m K c 17 16 v i.val t o vs ⊢ iprop((St m K c 17 16 v (i.val + 1) t o vs -∗ WP c (kont ⟨⟩) Q) -∗
      WP c (.op (.waitDma2 (sendS (tsl c i)) srcw (yV i) hsrc hdst) kont) Q) := by
    unfold St Ow Snd
    rw [From_eq i, bigSep_in (not_mem_From i), Below_eq i, bigSep_in (not_mem_Below i), Mid_first i, bigSep_in (not_mem_Mid_first i), Oall_last c 17 (by omega)]
    iintro ⟨#HR, ⟨%W, HO⟩, HA, HY, ⟨Ht, ⟨Hc, Hcs⟩, ⟨Hat, Hf⟩, Hb⟩, HV, HX, HB, HW⟩
    ihave #HI := (Rec_inv m K (c, .inr (.inl (tsl c i)))) $$ HR
    iintro Hk
    iapply (Rounds.wp_wait_rest_token 𝒱₀ ER (meshRd m) (c : Thread nD τ) none (κ := K (c, .inr (.inl (tsl c i))))
      (wpE_waitDma2_eq 𝒱₀ (c : Thread nD τ) none Set.univ) (Set.mem_univ _) () (O := 0) (W := W) (R := 0) (m := 0) (T := ∅)
      (by rw [Nat.zero_add, expect_send])) $$ [Hc HO Hat]
    · isplitr; · iexact HI
      isplitl [Hc]; · rw [credit_yV]; iexact Hc
      isplitl [HO]; · iexact HO
      isplitr; · rw [MayWait_zero]; iempintro
      iexact Hat
    iintro ⟨HO, Hat, -, Hpay⟩
    ihave Hp := (Entails.of_eq (rest_send m c (tsl c i))) $$ Hpay
    imod (Rounds.cell_close ER (meshRd m) (Set.mem_univ (K (c, .inr (.inl (tsl c i))))) (fun h => h) (R := 0 + 1) (duties_later m (sendCell c (tsl c i)))) $$ [Hat] with Hz
    · isplitr; · iexact HI
      iexact Hat
    iapply Hk
    isplitr; · iexact HR
    isplitl [HO]; · iexists (insert (SemLoc.dma (sendS (tsl c i)), ()) W); iexact HO
    isplitl [HA]; · iexact HA
    isplitl [HY]; · iexact HY
    isplitl [Ht Hcs Hf Hb Hz Hp]
    · isplitl [Ht]; · iexact Ht
      isplitl [Hcs]; · iexact Hcs
      isplitl [Hf]; · iexact Hf
      isplitl [Hz Hp]
      · isplitl [Hz] <;> iassumption
      iexact Hb
    isplitl [HV]; · iexact HV
    isplitl [HX]; · iexact HX
    isplitl [HB] <;> iassumption
  iintro H
  iapply hX $$ H
  iintro H
  iapply hk $$ H

end Cert.GemmProof
-- ==== Proof.Steps.lean ====
/-
# The steps as the program writes them

The program computes its offsets by chains of words. Each lemma here is a step with the offsets left
open, and asks for their values.
-/
module

public import proofs.«01_k».proof.Proof.Stores
public import proofs.«01_k».proof.Proof.Waits
public import proofs.«01_k».proof.Proof.Comm

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {k n v u t o : ℕ} {vs : Fin 2 → VS}

/-- The send in place `j` of group `g`, with the offsets as the program writes them. -/
theorem send_at (g j : Fin 4) {d : ℕ} {hd : d < nD} (he : d = (dst c (finProdFinEquiv (g, j))).val) (hn : n = (finProdFinEquiv (g, j)).val) (hv : n < v)
    {oy oc : Fin 3 → ℕ} {os : Fin 1 → ℕ} (hoy : oy = ![(finProdFinEquiv (g, j)).val / 4, 0, 128 * ((finProdFinEquiv (g, j)).val % 4)])
    (hoc : oc = ![(tsl c (finProdFinEquiv (g, j))).val, 0, 0]) (hos : os = ![(tsl c (finProdFinEquiv (g, j))).val])
    {iy : ∀ a, oy a + S1x256x128.size a ≤ S4x256x512.size a} {ic : ∀ a, oc a + S1x256x128.size a ≤ S16x256x128.size a}
    {is is' : ∀ a, os a + S1.size a ≤ S16.size a}
    {hsc hsrc hdst hsem} {α : Type} {Q : α → sProp 𝕄} {kont : PUnit → Prog (TpuEff nD τ sig (Elt F) Λ₀ .tc) α}
    (hk : St m K c 17 (n + 1) v 0 t o vs ⊢ WP c (kont ⟨⟩) Q) :
    St m K c 17 n v 0 t o vs ⊢ WP c (.op (.enqueueDma
      ((yM.slice (Rect.unit (s := S4x256x512) oy S1x256x128.size iy) (fun _ => rfl)).squeeze S256x128 squeezes_S1x256x128_S256x128)
      (.remote (Dev.tc (⟨d, hd⟩ : Dev nD) : Thread nD τ)
        ((cM.slice (Rect.unit (s := S16x256x128) oc S1x256x128.size ic) (fun _ => rfl)).squeeze S256x128 squeezes_S1x256x128_S256x128)
        (.dma ((cc0_scratch4.slice (Rect.unit (s := S16) os S1.size is)).squeeze S_ squeezes_S1_S_).sem) hsc)
      (.dma ((cc0_scratch5.slice (Rect.unit (s := S16) os S1.size is')).squeeze S_ squeezes_S1_S_).sem) hsrc hdst hsem) kont) Q := by
  subst hn hoy hoc hos
  exact wp_send (finProdFinEquiv (g, j)) ⟨d, hd⟩ (Fin.ext he) (tsl c (finProdFinEquiv (g, j))) rfl hv hk

/-- The wait for that send. -/
theorem sent_at (g j : Fin 4) (hu : u = (finProdFinEquiv (g, j)).val)
    {oy : Fin 3 → ℕ} {os : Fin 1 → ℕ} (hoy : oy = ![(finProdFinEquiv (g, j)).val / 4, 0, 128 * ((finProdFinEquiv (g, j)).val % 4)])
    (hos : os = ![(tsl c (finProdFinEquiv (g, j))).val])
    {iy : ∀ a, oy a + S1x256x128.size a ≤ S4x256x512.size a} {is : ∀ a, os a + S1.size a ≤ S16.size a}
    {srcw : Memref sig .tc .vmem S256x128 .bf16} {hsrc hdst} {α : Type} {Q : α → sProp 𝕄} {kont : PUnit → Prog (TpuEff nD τ sig (Elt F) Λ₀ .tc) α}
    (hk : St m K c 17 16 v (u + 1) t o vs ⊢ WP c (kont ⟨⟩) Q) :
    St m K c 17 16 v u t o vs ⊢ WP c (.op (.waitDma2 ((cc0_scratch4.slice (Rect.unit (s := S16) os S1.size is)).squeeze S_ squeezes_S1_S_).sem srcw
      ((yM.slice (Rect.unit (s := S4x256x512) oy S1x256x128.size iy) (fun _ => rfl)).squeeze S256x128 squeezes_S1x256x128_S256x128) hsrc hdst) kont) Q := by
  subst hu hoy hos
  exact wp_sent (finProdFinEquiv (g, j)) (tsl c (finProdFinEquiv (g, j))) rfl hk

/-- The wait for the block that lands in slot `i`. -/
theorem recv_at (i : Fin 16) (ht : t = i.val) {oc : Fin 3 → ℕ} {os : Fin 1 → ℕ} (hoc : oc = ![i.val, 0, 0]) (hos : os = ![i.val])
    {ic : ∀ a, oc a + S1x256x128.size a ≤ S16x256x128.size a} {is : ∀ a, os a + S1.size a ≤ S16.size a}
    {srcw : Memref sig .tc .vmem S256x128 .bf16} {hsrc hdst} {α : Type} {Q : α → sProp 𝕄} {kont : PUnit → Prog (TpuEff nD τ sig (Elt F) Λ₀ .tc) α}
    (hk : St m K c 17 16 v u (t + 1) o vs ⊢ WP c (kont ⟨⟩) Q) :
    St m K c 17 16 v u t o vs ⊢ WP c (.op (.waitDma2 ((cc0_scratch5.slice (Rect.unit (s := S16) os S1.size is)).squeeze S_ squeezes_S1_S_).sem srcw
      ((cM.slice (Rect.unit (s := S16x256x128) oc S1x256x128.size ic) (fun _ => rfl)).squeeze S256x128 squeezes_S1x256x128_S256x128) hsrc hdst) kont) Q := by
  subst ht hoc hos
  exact step_recv i hk

/-- The load of that block. -/
theorem loadC_at (i : Fin 16) (hi : i.val < t) {oc : Fin 3 → ℕ} (hoc : oc = ![i.val, 0, 0])
    {ic : ∀ a, oc a + S1x256x128.size a ≤ S16x256x128.size a} {hl}
    {α : Type} {Q : α → sProp 𝕄} {kont : Vec F S1x256x128 .bf16 → Prog (TpuEff nD τ sig (Elt F) Λ₀ .tc) α}
    (hk : St m K c k n v u t o vs ⊢ WP c (kont (shapeCast S1x256x128 (yblk m (src c i) c) casts_c)) Q) :
    St m K c k n v u t o vs ⊢ WP c (.op (.load cM (Rect.unit (s := S16x256x128) oc S1x256x128.size ic).toLoadRect hl) kont) Q := by
  subst hoc
  exact wp_loadC i hi hk

/-- The store of its rows into the result. -/
theorem storeO_at (g j : Fin 4) (ho : o = (finProdFinEquiv (g, j)).val) {oo : Fin 2 → ℕ} (hoo : oo = ![256 * (src c (finProdFinEquiv (g, j))).val, 0])
    {io : ∀ a, oo a + S256x128.size a ≤ S4096x128.size a} {w : FVec F S256x128 .f32}
    (hw : w = k0_pay16 (shapeCast S1x256x128 (yblk m (src c (finProdFinEquiv (g, j))) c) casts_c)) {hx hm}
    {α : Type} {Q : α → sProp 𝕄} {kont : PUnit → Prog (TpuEff nD τ sig (Elt F) Λ₀ .tc) α}
    (hk : St m K c k n v u t (o + 1) vs ⊢ WP c (kont ⟨⟩) Q) :
    St m K c k n v u t o vs ⊢ WP c (.op (.store oM (Rect.unit (s := S4096x128) oo S256x128.size io) w Finset.univ hx hm) kont) Q := by
  subst ho hoo
  exact wp_storeO (finProdFinEquiv (g, j)) hw hk

/-- The start of group `g`'s copy into buffer `s`. -/
theorem copy_at (s : Fin 2) (g : Fin 4) (vs' : Fin 2 → VS) (H : (∀ g, vs s ≠ .fly g) ∧ vs' s = .fly g ∧ (∀ r, r ≠ s → vs' r = vs r) ∧
      g ∈ home vs ∧ home vs' = (home vs).erase g)
    {oh : Fin 2 → ℕ} {ow : Fin 3 → ℕ} {os : Fin 1 → ℕ} (hoh : oh = ![0, 512 * ((c.val / 4 + g.val) % 4)]) (how : ow = ![s.val, 0, 0]) (hos : os = ![s.val])
    {ih : ∀ a, oh a + S4096x512.size a ≤ S4096x2048.size a} {iw : ∀ a, ow a + S1x4096x512.size a ≤ S2x4096x512.size a}
    {is : ∀ a, os a + S1.size a ≤ S2.size a}
    {hsrc hdst hsem} {α : Type} {Q : α → sProp 𝕄} {kont : PUnit → Prog (TpuEff nD τ sig (Elt F) Λ₀ .tc) α}
    (hk : St m K c k n v u t o vs' ⊢ WP c (kont ⟨⟩) Q) :
    St m K c k n v u t o vs ⊢ WP c (.op (.enqueueDma (hM.slice (Rect.unit (s := S4096x2048) oh S4096x512.size ih) (fun _ => rfl))
      (.here ((wM.slice (Rect.unit (s := S2x4096x512) ow S1x4096x512.size iw) (fun _ => rfl)).squeeze S4096x512 squeezes_S1x4096x512_S4096x512))
      (.dma ((cc0_scratch3.slice (Rect.unit (s := S2) os S1.size is)).squeeze S_ squeezes_S1_S_).sem) hsrc hdst hsem) kont) Q := by
  subst hoh how hos
  exact wp_copy s g vs' H.1 H.2.1 H.2.2.1 H.2.2.2.1 H.2.2.2.2 (b := colBlk c g) rfl hk

/-- The wait for it. -/
theorem copied_at (s : Fin 2) (g : Fin 4) (vs' : Fin 2 → VS) (H : vs s = .fly g ∧ vs' s = .full g ∧ (∀ r, r ≠ s → vs' r = vs r) ∧
      g ∉ home vs ∧ home vs' = insert g (home vs))
    {ow : Fin 3 → ℕ} {os : Fin 1 → ℕ} (how : ow = ![s.val, 0, 0]) (hos : os = ![s.val])
    {iw : ∀ a, ow a + S1x4096x512.size a ≤ S2x4096x512.size a} {is : ∀ a, os a + S1.size a ≤ S2.size a}
    {srcw : Memref sig .tc .hbm S4096x512 .bf16} {hsrc hdst} {α : Type} {Q : α → sProp 𝕄} {kont : PUnit → Prog (TpuEff nD τ sig (Elt F) Λ₀ .tc) α}
    (hk : St m K c k n v u t o vs' ⊢ WP c (kont ⟨⟩) Q) :
    St m K c k n v u t o vs ⊢ WP c (.op (.waitDma2 ((cc0_scratch3.slice (Rect.unit (s := S2) os S1.size is)).squeeze S_ squeezes_S1_S_).sem srcw
      ((wM.slice (Rect.unit (s := S2x4096x512) ow S1x4096x512.size iw) (fun _ => rfl)).squeeze S4096x512 squeezes_S1x4096x512_S4096x512) hsrc hdst) kont) Q := by
  subst how hos
  exact wp_copied s g vs' H.1 H.2.1 H.2.2.1 H.2.2.2.1 H.2.2.2.2 hk

/-- The load of the column block it brought. -/
theorem loadW_at (s : Fin 2) (g : Fin 4) (hs : vs s = .full g) {ow : Fin 3 → ℕ} (how : ow = ![s.val, 0, 0])
    {iw : ∀ a, ow a + S1x4096x512.size a ≤ S2x4096x512.size a} {hl}
    {α : Type} {Q : α → sProp 𝕄} {kont : Vec F S1x4096x512 .bf16 → Prog (TpuEff nD τ sig (Elt F) Λ₀ .tc) α}
    (hk : St m K c k n v u t o vs ⊢ WP c (kont (wld m c g)) Q) :
    St m K c k n v u t o vs ⊢ WP c (.op (.load wM (Rect.unit (s := S2x4096x512) ow S1x4096x512.size iw).toLoadRect hl) kont) Q := by
  subst how
  exact wp_loadW s g hs hk

/-- The load of half a group of windows before they are computed, its value of no account. -/
theorem loadHalf_at (g h : ℕ) (hn : n = 4 * g + 2 * h) {oy : Fin 3 → ℕ} (hoy : oy = ![g, 0, 256 * h])
    {iy : ∀ a, oy a + S1x256x256.size a ≤ S4x256x512.size a} {hl}
    {α : Type} {Q : α → sProp 𝕄} {kont : Vec F S1x256x256 .bf16 → Prog (TpuEff nD τ sig (Elt F) Λ₀ .tc) α}
    (hk : ∀ w, St m K c k n v u t o vs ⊢ WP c (kont w) Q) :
    St m K c k n v u t o vs ⊢ WP c (.op (.load yM (Rect.unit (s := S4x256x512) oy S1x256x256.size iy).toLoadRect hl) kont) Q := by
  subst hoy
  exact wp_loadY (mem_hR hn.le) hk

/-- The load of a whole group of windows before they are computed. -/
theorem loadGroup_at (g : ℕ) (hn : n = 4 * g) {oy : Fin 3 → ℕ} (hoy : oy = ![g, 0, 0])
    {iy : ∀ a, oy a + S1x256x512.size a ≤ S4x256x512.size a} {hl}
    {α : Type} {Q : α → sProp 𝕄} {kont : Vec F S1x256x512 .bf16 → Prog (TpuEff nD τ sig (Elt F) Λ₀ .tc) α}
    (hk : ∀ w, St m K c k n v u t o vs ⊢ WP c (kont w) Q) :
    St m K c k n v u t o vs ⊢ WP c (.op (.load yM (Rect.unit (s := S4x256x512) oy S1x256x512.size iy).toLoadRect hl) kont) Q := by
  subst hoy
  exact wp_loadY (mem_gR hn.le) hk

/-- The store of half a group. -/
theorem storeHalf_at (g h : ℕ) (hh : h < 2) (hn : n = 4 * g + 2 * h) (v' : ℕ) (hv : v' = n + 2) {oy : Fin 3 → ℕ} (hoy : oy = ![g, 0, 256 * h])
    {iy : ∀ a, oy a + S1x256x256.size a ≤ S4x256x512.size a} {w : FVec F S1x256x256 .bf16}
    (hw : ∀ r q, q / 256 = h → ygrp m c g r q = at256 w r q) {hx hm}
    {α : Type} {Q : α → sProp 𝕄} {kont : PUnit → Prog (TpuEff nD τ sig (Elt F) Λ₀ .tc) α}
    (hk : St m K c k n v' u t o vs ⊢ WP c (kont ⟨⟩) Q) :
    St m K c k n v u t o vs ⊢ WP c (.op (.store yM (Rect.unit (s := S4x256x512) oy S1x256x256.size iy) w Finset.univ hx hm) kont) Q := by
  subst hoy
  exact wp_storeHalf g h hh hn v' hv hw hk

/-- The store of a whole group. -/
theorem storeGroup_at (g : ℕ) (hn : n = 4 * g) (v' : ℕ) (hv : v' = n + 4) {oy : Fin 3 → ℕ} (hoy : oy = ![g, 0, 0])
    {iy : ∀ a, oy a + S1x256x512.size a ≤ S4x256x512.size a} {w : FVec F S1x256x512 .bf16}
    (hw : ∀ r q, ygrp m c g r q = at512 w r q) {hx hm}
    {α : Type} {Q : α → sProp 𝕄} {kont : PUnit → Prog (TpuEff nD τ sig (Elt F) Λ₀ .tc) α}
    (hk : St m K c k n v' u t o vs ⊢ WP c (kont ⟨⟩) Q) :
    St m K c k n v u t o vs ⊢ WP c (.op (.store yM (Rect.unit (s := S4x256x512) oy S1x256x512.size iy) w Finset.univ hx hm) kont) Q := by
  subst hoy
  exact wp_storeGroup g hn v' hv hw hk

end Cert.GemmProof
-- ==== Proof.Begin.lean ====
/-
# The start: the signals, the barrier, the first weights
-/
module

public import proofs.«01_k».proof.Proof.Steps

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {k n v u t o : ℕ} {vs : Fin 2 → VS}

/-- The six buffers are whole. -/
theorem whole_x : xM.IsWhole := Memref.isWhole_whole _
theorem whole_h : hM.IsWhole := Memref.isWhole_whole _
theorem whole_o : oM.IsWhole := Memref.isWhole_whole _
theorem whole_w : wM.IsWhole := Memref.isWhole_whole _
theorem whole_y : yM.IsWhole := Memref.isWhole_whole _
theorem whole_c : cM.IsWhole := Memref.isWhole_whole _

/-- Device `c`'s rows as the kernel multiplies them. -/
abbrev rows (m : (ℓ : Loc nD τ sig) → Buf (Elt F) ℓ) (c : Dev nD) : FVec F S256x4096 .bf16 := k0_pay1 (xstg m c)
/-- The block that lands in slot `i`, as a load reads it. -/
abbrev landed (m : (ℓ : Loc nD τ sig) → Buf (Elt F) ℓ) (c : Dev nD) (i : Fin 16) : FVec F S1x256x128 .bf16 :=
  shapeCast S1x256x128 (yblk m (src c i) c) casts_c

theorem pure_sep {φ : Prop} (h : φ) {P : sProp 𝕄} : P ⊢ iprop(⌜φ⌝ ∗ P) := by
  iintro H
  isplitr; · ipureintro; exact h
  iexact H

/-- A program that starts by asking for its device. -/
theorem step_device {α : Type} {P : sProp 𝕄} {Q : α → sProp 𝕄} {kont : Dev nD → Prog (TpuEff nD τ sig (Elt F) Λ₀ .tc) α} (hk : P ⊢ WP c (kont c) Q) :
    P ⊢ WP c (.op .deviceId kont) Q := by
  rw [show WP c (.op .deviceId kont) Q = WP c (kont c) Q from wp_deviceId 𝒱₀ (c : Thread nD τ) none Set.univ]
  exact hk

/-- The device's number. -/
theorem part1_ok : St m K c 0 0 0 0 0 0 ![.free, .free] ⊢
      WP c (k0_part1 xM whole_x hM whole_h oM whole_o wM whole_w yM whole_y cM whole_c cc0_scratch3 cc0_scratch4 cc0_scratch5)
        (fun r => iprop(⌜r.1 = c⌝ ∗ St m K c 0 0 0 0 0 0 ![.free, .free])) := by
  rw [k0_part1_eq_skeleton]
  unfold k0_part1_skel
  simp only [Prog.lift, Prog.bind_op, Prog.bind_ret, Prog.pure_eq_ret]
  refine step_device ?_
  exact wp_end (pure_sep rfl)

set_option maxHeartbeats 4000000 in
/-- The start of copy 0, signal 0, signal 1, signal 2, signal 3, signal 4, signal 5, signal 6. -/
theorem part2_ok (v2 v32 v33 : BitVec 32) (v34 v35 v36 : BitVec 1) :
    St m K c 0 0 0 0 0 0 ![.free, .free] ⊢
      WP c (k0_part2 xM whole_x hM whole_h oM whole_o wM whole_w yM whole_y cM whole_c cc0_scratch3 cc0_scratch4 cc0_scratch5 c v2 v32 v33 v34 v35 v36)
        (fun r => iprop(⌜r = SemArray.scalar (sig.barrier 0 rfl)⌝ ∗ St m K c 7 0 0 0 0 0 ![.fly 0, .free])) := by
  rw [k0_part2_eq_skeleton]
  unfold k0_part2_skel
  simp only [semSignalWord, semWaitWord, Prog.lift, Prog.bind_op, Prog.bind_ret, Prog.pure_eq_ret]
  refine copy_at 0 0 ![.fly 0, .free] (by decide) (off1_eq c 0) rfl rfl ?_
  refine step_sig 0 (cond1_iff c) (fun _ => rfl) rfl ?_
  refine step_sig 1 (cond2_iff c) (fun _ => rfl) rfl ?_
  refine step_sig 2 (cond3_iff c) (fun _ => rfl) rfl ?_
  refine step_sig 3 (cond4_iff c) (fun _ => rfl) rfl ?_
  refine step_sig 4 (cond5_iff c) (fun _ => rfl) rfl ?_
  refine step_sig 5 (cond6_iff c) (fun _ => rfl) rfl ?_
  refine step_sig 6 (cond7_iff c) (fun _ => rfl) rfl ?_
  exact wp_end (pure_sep rfl)

set_option maxHeartbeats 4000000 in
/-- Signal 7, signal 8, signal 9, signal 10, signal 11, signal 12, signal 13, signal 14, signal 15, the barrier's wait, the load of the rows. -/
theorem part3_ok (v2 : BitVec 32) :
    St m K c 7 0 0 0 0 0 ![.fly 0, .free] ⊢
      WP c (k0_part3 xM whole_x hM whole_h oM whole_o wM whole_w yM whole_y cM whole_c cc0_scratch3 cc0_scratch4 cc0_scratch5 c v2 (SemArray.scalar (sig.barrier 0 rfl)))
        (fun r => iprop(⌜r = xstg m c⌝ ∗ St m K c 17 0 0 0 0 0 ![.fly 0, .free])) := by
  rw [k0_part3_eq_skeleton]
  unfold k0_part3_skel
  simp only [semSignalWord, semWaitWord, Prog.lift, Prog.bind_op, Prog.bind_ret, Prog.pure_eq_ret]
  refine step_sig 7 (cond8_iff c) (fun _ => rfl) rfl ?_
  refine step_sig 8 (cond9_iff c) (fun _ => rfl) rfl ?_
  refine step_sig 9 (cond10_iff c) (fun _ => rfl) rfl ?_
  refine step_sig 10 (cond11_iff c) (fun _ => rfl) rfl ?_
  refine step_sig 11 (cond12_iff c) (fun _ => rfl) rfl ?_
  refine step_sig 12 (cond13_iff c) (fun _ => rfl) rfl ?_
  refine step_sig 13 (cond14_iff c) (fun _ => rfl) rfl ?_
  refine step_sig 14 (cond15_iff c) (fun _ => rfl) rfl ?_
  refine step_sig 15 (cond16_iff c) (fun _ => rfl) rfl ?_
  refine step_barrier ?_
  refine wp_loadX ?_
  exact wp_end (pure_sep rfl)

/-- The start of copy 1. -/
theorem part4_ok (v19 : BitVec 32) :
    St m K c 17 0 0 0 0 0 ![.fly 0, .free] ⊢
      WP c (k0_part4 xM whole_x hM whole_h oM whole_o wM whole_w yM whole_y cM whole_c cc0_scratch3 cc0_scratch4 cc0_scratch5 c v19 (xstg m c))
        (fun r => iprop(⌜r = rows m c⌝ ∗ St m K c 17 0 0 0 0 0 ![.fly 0, .fly 1])) := by
  rw [k0_part4_eq_skeleton]
  unfold k0_part4_skel
  simp only [semSignalWord, semWaitWord, Prog.lift, Prog.bind_op, Prog.bind_ret, Prog.pure_eq_ret]
  refine copy_at 1 1 ![.fly 0, .fly 1] (by decide) (off1_eq c 1) rfl rfl ?_
  exact wp_end (pure_sep rfl)

/-- The wait for copy 0, the load of column block 0, the store of half 0 of group 0. -/
theorem part5_ok (v19 v29 : BitVec 32) :
    St m K c 17 0 0 0 0 0 ![.fly 0, .fly 1] ⊢
      WP c (k0_part5 xM whole_x hM whole_h oM whole_o wM whole_w yM whole_y cM whole_c cc0_scratch3 cc0_scratch4 cc0_scratch5 c v19 v29 (rows m c))
        (fun _ => St m K c 17 0 2 0 0 0 ![.full 0, .fly 1]) := by
  rw [k0_part5_eq_skeleton]
  unfold k0_part5_skel
  simp only [semSignalWord, semWaitWord, Prog.lift, Prog.bind_op, Prog.bind_ret, Prog.pure_eq_ret]
  refine copied_at 0 0 ![.full 0, .fly 1] (by decide) rfl rfl ?_
  refine loadW_at 0 0 rfl rfl ?_
  refine loadHalf_at 0 0 rfl rfl fun _ => ?_
  refine storeHalf_at 0 0 (by decide) rfl 2 rfl rfl (fun _ _ h => if_pos (by omega)) ?_
  exact wp_end .rfl

end Cert.GemmProof
-- ==== Proof.Sends.lean ====
/-
# The sends

Each group of windows is computed from a column block of the weights and sent window by window.
-/
module

public import proofs.«01_k».proof.Proof.Begin

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {k n v u t o : ℕ} {vs : Fin 2 → VS}

/-- Send 0. -/
theorem part6_ok (v19 v29 v165 v166 : BitVec 32) :
    St m K c 17 0 2 0 0 0 ![.full 0, .fly 1] ⊢
      WP c (k0_part6 xM whole_x hM whole_h oM whole_o wM whole_w yM whole_y cM whole_c cc0_scratch3 cc0_scratch4 cc0_scratch5 c v19 v29 v165 v166)
        (fun _ => St m K c 17 1 2 0 0 0 ![.full 0, .fly 1]) := by
  rw [k0_part6_eq_skeleton]
  unfold k0_part6_skel
  simp only [semSignalWord, semWaitWord, Prog.lift, Prog.bind_op, Prog.bind_ret, Prog.pure_eq_ret]
  refine send_at 0 0 (dev17_eq c) rfl (by decide) rfl (off3_eq c 0 0) (off2_eq c 0 0) ?_
  exact wp_end .rfl

/-- Send 1, the load of column block 0. -/
theorem part7_ok (v200 v201 : BitVec 32) :
    St m K c 17 1 2 0 0 0 ![.full 0, .fly 1] ⊢
      WP c (k0_part7 xM whole_x hM whole_h oM whole_o wM whole_w yM whole_y cM whole_c cc0_scratch3 cc0_scratch4 cc0_scratch5 c (rows m c) v200 v201)
        (fun r => iprop(⌜r = ⟨k0_pay4 (rows m c) (wld m c 0), k0_pay5 (rows m c) (wld m c 0)⟩⌝ ∗ St m K c 17 2 2 0 0 0 ![.full 0, .fly 1])) := by
  rw [k0_part7_eq_skeleton]
  unfold k0_part7_skel
  simp only [semSignalWord, semWaitWord, Prog.lift, Prog.bind_op, Prog.bind_ret, Prog.pure_eq_ret]
  refine send_at 0 1 (dev18_eq c) rfl (by decide) rfl (off3_eq c 0 1) (off2_eq c 0 1) ?_
  refine loadW_at 0 0 rfl rfl ?_
  exact wp_end (pure_sep rfl)

/-- The store of half 1 of group 0. -/
theorem part8_ok (v19 v29 : BitVec 32) :
    St m K c 17 2 2 0 0 0 ![.full 0, .fly 1] ⊢
      WP c (k0_part8 xM whole_x hM whole_h oM whole_o wM whole_w yM whole_y cM whole_c cc0_scratch3 cc0_scratch4 cc0_scratch5 c v19 v29 (k0_pay4 (rows m c) (wld m c 0)) (k0_pay5 (rows m c) (wld m c 0)))
        (fun _ => St m K c 17 2 4 0 0 0 ![.full 0, .fly 1]) := by
  rw [k0_part8_eq_skeleton]
  unfold k0_part8_skel
  simp only [semSignalWord, semWaitWord, Prog.lift, Prog.bind_op, Prog.bind_ret, Prog.pure_eq_ret]
  refine loadHalf_at 0 1 rfl rfl fun _ => ?_
  refine storeHalf_at 0 1 (by decide) rfl 4 rfl rfl (fun _ _ h => if_neg (by omega)) ?_
  exact wp_end .rfl

/-- Send 2. -/
theorem part9_ok (v19 v29 : BitVec 32) :
    St m K c 17 2 4 0 0 0 ![.full 0, .fly 1] ⊢
      WP c (k0_part9 xM whole_x hM whole_h oM whole_o wM whole_w yM whole_y cM whole_c cc0_scratch3 cc0_scratch4 cc0_scratch5 c v19 v29)
        (fun _ => St m K c 17 3 4 0 0 0 ![.full 0, .fly 1]) := by
  rw [k0_part9_eq_skeleton]
  unfold k0_part9_skel
  simp only [semSignalWord, semWaitWord, Prog.lift, Prog.bind_op, Prog.bind_ret, Prog.pure_eq_ret]
  refine send_at 0 2 (dev19_eq c) rfl (by decide) rfl (off3_eq c 0 2) (off2_eq c 0 2) ?_
  exact wp_end .rfl

/-- Send 3, the start of copy 2. -/
theorem part10_ok (v19 : BitVec 32) :
    St m K c 17 3 4 0 0 0 ![.full 0, .fly 1] ⊢
      WP c (k0_part10 xM whole_x hM whole_h oM whole_o wM whole_w yM whole_y cM whole_c cc0_scratch3 cc0_scratch4 cc0_scratch5 c v19)
        (fun _ => St m K c 17 4 4 0 0 0 ![.fly 2, .fly 1]) := by
  rw [k0_part10_eq_skeleton]
  unfold k0_part10_skel
  simp only [semSignalWord, semWaitWord, Prog.lift, Prog.bind_op, Prog.bind_ret, Prog.pure_eq_ret]
  refine send_at 0 3 (dev20_eq c) rfl (by decide) rfl (off3_eq c 0 3) (off2_eq c 0 3) ?_
  refine copy_at 0 2 ![.fly 2, .fly 1] (by decide) (off1_eq c 2) rfl rfl ?_
  exact wp_end .rfl

/-- The wait for copy 1, the load of column block 1, the store of group 1. -/
theorem part11_ok (v19 : BitVec 32) :
    St m K c 17 4 4 0 0 0 ![.fly 2, .fly 1] ⊢
      WP c (k0_part11 xM whole_x hM whole_h oM whole_o wM whole_w yM whole_y cM whole_c cc0_scratch3 cc0_scratch4 cc0_scratch5 c v19 (rows m c))
        (fun _ => St m K c 17 4 8 0 0 0 ![.fly 2, .full 1]) := by
  rw [k0_part11_eq_skeleton]
  unfold k0_part11_skel
  simp only [semSignalWord, semWaitWord, Prog.lift, Prog.bind_op, Prog.bind_ret, Prog.pure_eq_ret]
  refine copied_at 1 1 ![.fly 2, .full 1] (by decide) rfl rfl ?_
  refine loadW_at 1 1 rfl rfl ?_
  refine loadGroup_at 1 rfl rfl fun _ => ?_
  refine storeGroup_at 1 rfl 8 rfl rfl (fun _ _ => rfl) ?_
  exact wp_end .rfl

/-- Send 4. -/
theorem part12_ok (v19 v29 v371 : BitVec 32) (v376 : BitVec 1) (v377 : BitVec 32) :
    St m K c 17 4 8 0 0 0 ![.fly 2, .full 1] ⊢
      WP c (k0_part12 xM whole_x hM whole_h oM whole_o wM whole_w yM whole_y cM whole_c cc0_scratch3 cc0_scratch4 cc0_scratch5 c v19 v29 v371 v376 v377)
        (fun _ => St m K c 17 5 8 0 0 0 ![.fly 2, .full 1]) := by
  rw [k0_part12_eq_skeleton]
  unfold k0_part12_skel
  simp only [semSignalWord, semWaitWord, Prog.lift, Prog.bind_op, Prog.bind_ret, Prog.pure_eq_ret]
  refine send_at 1 0 (dev21_eq c) rfl (by decide) rfl (off3_eq c 1 0) (off2_eq c 1 0) ?_
  exact wp_end .rfl

/-- Send 5. -/
theorem part13_ok (v19 v29 v406 : BitVec 32) (v411 : BitVec 1) (v412 : BitVec 32) :
    St m K c 17 5 8 0 0 0 ![.fly 2, .full 1] ⊢
      WP c (k0_part13 xM whole_x hM whole_h oM whole_o wM whole_w yM whole_y cM whole_c cc0_scratch3 cc0_scratch4 cc0_scratch5 c v19 v29 v406 v411 v412)
        (fun _ => St m K c 17 6 8 0 0 0 ![.fly 2, .full 1]) := by
  rw [k0_part13_eq_skeleton]
  unfold k0_part13_skel
  simp only [semSignalWord, semWaitWord, Prog.lift, Prog.bind_op, Prog.bind_ret, Prog.pure_eq_ret]
  refine send_at 1 1 (dev22_eq c) rfl (by decide) rfl (off3_eq c 1 1) (off2_eq c 1 1) ?_
  exact wp_end .rfl

/-- Send 6. -/
theorem part14_ok (v19 v29 v441 : BitVec 32) (v446 : BitVec 1) (v447 : BitVec 32) :
    St m K c 17 6 8 0 0 0 ![.fly 2, .full 1] ⊢
      WP c (k0_part14 xM whole_x hM whole_h oM whole_o wM whole_w yM whole_y cM whole_c cc0_scratch3 cc0_scratch4 cc0_scratch5 c v19 v29 v441 v446 v447)
        (fun _ => St m K c 17 7 8 0 0 0 ![.fly 2, .full 1]) := by
  rw [k0_part14_eq_skeleton]
  unfold k0_part14_skel
  simp only [semSignalWord, semWaitWord, Prog.lift, Prog.bind_op, Prog.bind_ret, Prog.pure_eq_ret]
  refine send_at 1 2 (dev23_eq c) rfl (by decide) rfl (off3_eq c 1 2) (off2_eq c 1 2) ?_
  exact wp_end .rfl

/-- Send 7. -/
theorem part15_ok (v19 v29 v476 : BitVec 32) (v481 : BitVec 1) (v482 : BitVec 32) :
    St m K c 17 7 8 0 0 0 ![.fly 2, .full 1] ⊢
      WP c (k0_part15 xM whole_x hM whole_h oM whole_o wM whole_w yM whole_y cM whole_c cc0_scratch3 cc0_scratch4 cc0_scratch5 c v19 v29 v476 v481 v482)
        (fun _ => St m K c 17 8 8 0 0 0 ![.fly 2, .full 1]) := by
  rw [k0_part15_eq_skeleton]
  unfold k0_part15_skel
  simp only [semSignalWord, semWaitWord, Prog.lift, Prog.bind_op, Prog.bind_ret, Prog.pure_eq_ret]
  refine send_at 1 3 (dev24_eq c) rfl (by decide) rfl (off3_eq c 1 3) (off2_eq c 1 3) ?_
  exact wp_end .rfl

/-- The start of copy 3, the wait for copy 2, the load of column block 2. -/
theorem part16_ok (v19 v511 : BitVec 32) (v516 : BitVec 1) (v517 : BitVec 32) :
    St m K c 17 8 8 0 0 0 ![.fly 2, .full 1] ⊢
      WP c (k0_part16 xM whole_x hM whole_h oM whole_o wM whole_w yM whole_y cM whole_c cc0_scratch3 cc0_scratch4 cc0_scratch5 c v19 (rows m c) v511 v516 v517)
        (fun r => iprop(⌜r = ⟨k0_pay8 (rows m c) (wld m c 2), k0_pay9 (rows m c) (wld m c 2), k0_pay10 (rows m c) (wld m c 2)⟩⌝ ∗ St m K c 17 8 8 0 0 0 ![.full 2, .fly 3])) := by
  rw [k0_part16_eq_skeleton]
  unfold k0_part16_skel
  simp only [semSignalWord, semWaitWord, Prog.lift, Prog.bind_op, Prog.bind_ret, Prog.pure_eq_ret]
  refine copy_at 1 3 ![.fly 2, .fly 3] (by decide) (off1_eq c 3) rfl rfl ?_
  refine copied_at 0 2 ![.full 2, .fly 3] (by decide) rfl rfl ?_
  refine loadW_at 0 2 rfl rfl ?_
  exact wp_end (pure_sep rfl)

/-- The store of group 2. -/
theorem part17_ok (v19 v29 : BitVec 32) :
    St m K c 17 8 8 0 0 0 ![.full 2, .fly 3] ⊢
      WP c (k0_part17 xM whole_x hM whole_h oM whole_o wM whole_w yM whole_y cM whole_c cc0_scratch3 cc0_scratch4 cc0_scratch5 v19 v29 (k0_pay8 (rows m c) (wld m c 2)) (k0_pay9 (rows m c) (wld m c 2)) (k0_pay10 (rows m c) (wld m c 2)))
        (fun _ => St m K c 17 8 12 0 0 0 ![.full 2, .fly 3]) := by
  rw [k0_part17_eq_skeleton]
  unfold k0_part17_skel
  simp only [semSignalWord, semWaitWord, Prog.lift, Prog.bind_op, Prog.bind_ret, Prog.pure_eq_ret]
  refine loadGroup_at 2 rfl rfl fun _ => ?_
  refine storeGroup_at 2 rfl 12 rfl rfl (fun _ _ => rfl) ?_
  exact wp_end .rfl

/-- Send 8. -/
theorem part18_ok (v19 v29 v574 : BitVec 32) :
    St m K c 17 8 12 0 0 0 ![.full 2, .fly 3] ⊢
      WP c (k0_part18 xM whole_x hM whole_h oM whole_o wM whole_w yM whole_y cM whole_c cc0_scratch3 cc0_scratch4 cc0_scratch5 c v19 v29 v574)
        (fun _ => St m K c 17 9 12 0 0 0 ![.full 2, .fly 3]) := by
  rw [k0_part18_eq_skeleton]
  unfold k0_part18_skel
  simp only [semSignalWord, semWaitWord, Prog.lift, Prog.bind_op, Prog.bind_ret, Prog.pure_eq_ret]
  refine send_at 2 0 (dev25_eq c) rfl (by decide) rfl (off3_eq c 2 0) (off2_eq c 2 0) ?_
  exact wp_end .rfl

/-- Send 9. -/
theorem part19_ok (v19 v29 v609 : BitVec 32) :
    St m K c 17 9 12 0 0 0 ![.full 2, .fly 3] ⊢
      WP c (k0_part19 xM whole_x hM whole_h oM whole_o wM whole_w yM whole_y cM whole_c cc0_scratch3 cc0_scratch4 cc0_scratch5 c v19 v29 v609)
        (fun _ => St m K c 17 10 12 0 0 0 ![.full 2, .fly 3]) := by
  rw [k0_part19_eq_skeleton]
  unfold k0_part19_skel
  simp only [semSignalWord, semWaitWord, Prog.lift, Prog.bind_op, Prog.bind_ret, Prog.pure_eq_ret]
  refine send_at 2 1 (dev26_eq c) rfl (by decide) rfl (off3_eq c 2 1) (off2_eq c 2 1) ?_
  exact wp_end .rfl

/-- Send 10. -/
theorem part20_ok (v19 v29 v644 : BitVec 32) :
    St m K c 17 10 12 0 0 0 ![.full 2, .fly 3] ⊢
      WP c (k0_part20 xM whole_x hM whole_h oM whole_o wM whole_w yM whole_y cM whole_c cc0_scratch3 cc0_scratch4 cc0_scratch5 c v19 v29 v644)
        (fun _ => St m K c 17 11 12 0 0 0 ![.full 2, .fly 3]) := by
  rw [k0_part20_eq_skeleton]
  unfold k0_part20_skel
  simp only [semSignalWord, semWaitWord, Prog.lift, Prog.bind_op, Prog.bind_ret, Prog.pure_eq_ret]
  refine send_at 2 2 (dev27_eq c) rfl (by decide) rfl (off3_eq c 2 2) (off2_eq c 2 2) ?_
  exact wp_end .rfl

/-- Send 11, the wait for copy 3, the load of column block 3. -/
theorem part21_ok (v19 v679 : BitVec 32) :
    St m K c 17 11 12 0 0 0 ![.full 2, .fly 3] ⊢
      WP c (k0_part21 xM whole_x hM whole_h oM whole_o wM whole_w yM whole_y cM whole_c cc0_scratch3 cc0_scratch4 cc0_scratch5 c v19 (rows m c) v679)
        (fun r => iprop(⌜r = ⟨k0_pay12 (rows m c) (wld m c 3), k0_pay13 (rows m c) (wld m c 3), Scalar.ofBits .f32 0x3D372713#32⟩⌝ ∗ St m K c 17 12 12 0 0 0 ![.full 2, .full 3])) := by
  rw [k0_part21_eq_skeleton]
  unfold k0_part21_skel
  simp only [semSignalWord, semWaitWord, Prog.lift, Prog.bind_op, Prog.bind_ret, Prog.pure_eq_ret]
  refine send_at 2 3 (dev28_eq c) rfl (by decide) rfl (off3_eq c 2 3) (off2_eq c 2 3) ?_
  refine copied_at 1 3 ![.full 2, .full 3] (by decide) rfl rfl ?_
  refine loadW_at 1 3 rfl rfl ?_
  exact wp_end (pure_sep rfl)

/-- The store of half 0 of group 3. -/
theorem part22_ok (v19 v29 : BitVec 32) :
    St m K c 17 12 12 0 0 0 ![.full 2, .full 3] ⊢
      WP c (k0_part22 xM whole_x hM whole_h oM whole_o wM whole_w yM whole_y cM whole_c cc0_scratch3 cc0_scratch4 cc0_scratch5 v19 v29 (k0_pay12 (rows m c) (wld m c 3)) (k0_pay13 (rows m c) (wld m c 3)) (Scalar.ofBits .f32 0x3D372713#32))
        (fun _ => St m K c 17 12 14 0 0 0 ![.full 2, .full 3]) := by
  rw [k0_part22_eq_skeleton]
  unfold k0_part22_skel
  simp only [semSignalWord, semWaitWord, Prog.lift, Prog.bind_op, Prog.bind_ret, Prog.pure_eq_ret]
  refine loadHalf_at 3 0 rfl rfl fun _ => ?_
  refine storeHalf_at 3 0 (by decide) rfl 14 rfl rfl (fun _ _ h => if_pos (by omega)) ?_
  exact wp_end .rfl

/-- Send 12. -/
theorem part23_ok (v19 v29 v752 v756 : BitVec 32) (v761 : BitVec 1) (v762 : BitVec 32) :
    St m K c 17 12 14 0 0 0 ![.full 2, .full 3] ⊢
      WP c (k0_part23 xM whole_x hM whole_h oM whole_o wM whole_w yM whole_y cM whole_c cc0_scratch3 cc0_scratch4 cc0_scratch5 c v19 v29 v752 v756 v761 v762)
        (fun _ => St m K c 17 13 14 0 0 0 ![.full 2, .full 3]) := by
  rw [k0_part23_eq_skeleton]
  unfold k0_part23_skel
  simp only [semSignalWord, semWaitWord, Prog.lift, Prog.bind_op, Prog.bind_ret, Prog.pure_eq_ret]
  refine send_at 3 0 (dev29_eq c) rfl (by decide) rfl (off3_eq c 3 0) (off2_eq c 3 0) ?_
  exact wp_end .rfl

/-- Send 13, the load of column block 3, the store of half 1 of group 3. -/
theorem part24_ok (v19 v787 v791 : BitVec 32) (v796 : BitVec 1) (v797 : BitVec 32) :
    St m K c 17 13 14 0 0 0 ![.full 2, .full 3] ⊢
      WP c (k0_part24 xM whole_x hM whole_h oM whole_o wM whole_w yM whole_y cM whole_c cc0_scratch3 cc0_scratch4 cc0_scratch5 c v19 (rows m c) v787 v791 v796 v797)
        (fun _ => St m K c 17 14 16 0 0 0 ![.full 2, .full 3]) := by
  rw [k0_part24_eq_skeleton]
  unfold k0_part24_skel
  simp only [semSignalWord, semWaitWord, Prog.lift, Prog.bind_op, Prog.bind_ret, Prog.pure_eq_ret]
  refine send_at 3 1 (dev30_eq c) rfl (by decide) rfl (off3_eq c 3 1) (off2_eq c 3 1) ?_
  refine loadW_at 1 3 rfl rfl ?_
  refine loadHalf_at 3 1 rfl rfl fun _ => ?_
  refine storeHalf_at 3 1 (by decide) rfl 16 rfl rfl (fun _ _ h => if_neg (by omega)) ?_
  exact wp_end .rfl

/-- Send 14. -/
theorem part25_ok (v19 v29 v831 c4_i32_530 : BitVec 32) (v832 : BitVec 1) (c1_i32_532 : BitVec 32) :
    St m K c 17 14 16 0 0 0 ![.full 2, .full 3] ⊢
      WP c (k0_part25 xM whole_x hM whole_h oM whole_o wM whole_w yM whole_y cM whole_c cc0_scratch3 cc0_scratch4 cc0_scratch5 c v19 v29 v831 c4_i32_530 v832 c1_i32_532)
        (fun _ => St m K c 17 15 16 0 0 0 ![.full 2, .full 3]) := by
  rw [k0_part25_eq_skeleton]
  unfold k0_part25_skel
  simp only [semSignalWord, semWaitWord, Prog.lift, Prog.bind_op, Prog.bind_ret, Prog.pure_eq_ret]
  refine send_at 3 2 (dev31_eq c) rfl (by decide) rfl (off3_eq c 3 2) (off2_eq c 3 2) ?_
  exact wp_end .rfl

/-- Send 15. -/
theorem part26_ok (v19 v29 v866 c4_i32_554 : BitVec 32) (v867 : BitVec 1) (c1_i32_556 : BitVec 32) :
    St m K c 17 15 16 0 0 0 ![.full 2, .full 3] ⊢
      WP c (k0_part26 xM whole_x hM whole_h oM whole_o wM whole_w yM whole_y cM whole_c cc0_scratch3 cc0_scratch4 cc0_scratch5 c v19 v29 v866 c4_i32_554 v867 c1_i32_556)
        (fun _ => St m K c 17 16 16 0 0 0 ![.full 2, .full 3]) := by
  rw [k0_part26_eq_skeleton]
  unfold k0_part26_skel
  simp only [semSignalWord, semWaitWord, Prog.lift, Prog.bind_op, Prog.bind_ret, Prog.pure_eq_ret]
  refine send_at 3 3 (dev32_eq c) rfl (by decide) rfl (off3_eq c 3 3) (off2_eq c 3 3) ?_
  exact wp_end .rfl

end Cert.GemmProof
-- ==== Proof.Receives.lean ====
/-
# The receives

Each block that lands is widened into its rows of the result.
-/
module

public import proofs.«01_k».proof.Proof.Begin

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {k n v u t o : ℕ} {vs : Fin 2 → VS}

/-- The wait for slot 0, its load. -/
theorem part27_ok (v2 v29 v901 c4_i32_578 : BitVec 32) (v902 : BitVec 1) (c1_i32_580 : BitVec 32) :
    St m K c 17 16 16 0 0 0 ![.full 2, .full 3] ⊢
      WP c (k0_part27 xM whole_x hM whole_h oM whole_o wM whole_w yM whole_y cM whole_c cc0_scratch3 cc0_scratch4 cc0_scratch5 v2 v29 v901 c4_i32_578 v902 c1_i32_580)
        (fun r => iprop(⌜r.1 = k0_pay16 (landed m c 0)⌝ ∗ St m K c 17 16 16 0 1 0 ![.full 2, .full 3])) := by
  rw [k0_part27_eq_skeleton]
  unfold k0_part27_skel
  simp only [semSignalWord, semWaitWord, Prog.lift, Prog.bind_op, Prog.bind_ret, Prog.pure_eq_ret]
  refine recv_at 0 rfl rfl rfl ?_
  refine loadC_at 0 (by decide) rfl ?_
  exact wp_end (pure_sep rfl)

/-- The store of row block 0. -/
theorem part28_ok (v2 v19 v29 v936 : BitVec 32) :
    St m K c 17 16 16 0 1 0 ![.full 2, .full 3] ⊢
      WP c (k0_part28 xM whole_x hM whole_h oM whole_o wM whole_w yM whole_y cM whole_c cc0_scratch3 cc0_scratch4 cc0_scratch5 c v2 v19 v29 (k0_pay16 (landed m c 0)) v936)
        (fun _ => St m K c 17 16 16 0 1 1 ![.full 2, .full 3]) := by
  rw [k0_part28_eq_skeleton]
  unfold k0_part28_skel
  simp only [semSignalWord, semWaitWord, Prog.lift, Prog.bind_op, Prog.bind_ret, Prog.pure_eq_ret]
  refine wp_loadO fun _ => ?_
  refine storeO_at 0 0 rfl (off4_eq c 0 0) rfl ?_
  exact wp_end .rfl

/-- The wait for slot 1, its load, the store of row block 1. -/
theorem part29_ok (v2 v19 v29 v962 : BitVec 32) :
    St m K c 17 16 16 0 1 1 ![.full 2, .full 3] ⊢
      WP c (k0_part29 xM whole_x hM whole_h oM whole_o wM whole_w yM whole_y cM whole_c cc0_scratch3 cc0_scratch4 cc0_scratch5 c v2 v19 v29 v962)
        (fun _ => St m K c 17 16 16 0 2 2 ![.full 2, .full 3]) := by
  rw [k0_part29_eq_skeleton]
  unfold k0_part29_skel
  simp only [semSignalWord, semWaitWord, Prog.lift, Prog.bind_op, Prog.bind_ret, Prog.pure_eq_ret]
  refine recv_at 1 rfl rfl rfl ?_
  refine loadC_at 1 (by decide) rfl ?_
  refine wp_loadO fun _ => ?_
  refine storeO_at 0 1 rfl (off4_eq c 0 1) rfl ?_
  exact wp_end .rfl

/-- The wait for slot 2, its load, the store of row block 2. -/
theorem part30_ok (v19 v29 v1000 v1001 c0_i32_657 : BitVec 32) :
    St m K c 17 16 16 0 2 2 ![.full 2, .full 3] ⊢
      WP c (k0_part30 xM whole_x hM whole_h oM whole_o wM whole_w yM whole_y cM whole_c cc0_scratch3 cc0_scratch4 cc0_scratch5 c v19 v29 v1000 v1001 c0_i32_657)
        (fun _ => St m K c 17 16 16 0 3 3 ![.full 2, .full 3]) := by
  rw [k0_part30_eq_skeleton]
  unfold k0_part30_skel
  simp only [semSignalWord, semWaitWord, Prog.lift, Prog.bind_op, Prog.bind_ret, Prog.pure_eq_ret]
  refine recv_at 2 rfl rfl rfl ?_
  refine loadC_at 2 (by decide) rfl ?_
  refine wp_loadO fun _ => ?_
  refine storeO_at 0 2 rfl (off4_eq c 0 2) rfl ?_
  exact wp_end .rfl

/-- The wait for slot 3, its load, the store of row block 3. -/
theorem part31_ok (v2 v19 v29 v1026 v1029 v1030 : BitVec 32) (v1035 : BitVec 1) :
    St m K c 17 16 16 0 3 3 ![.full 2, .full 3] ⊢
      WP c (k0_part31 xM whole_x hM whole_h oM whole_o wM whole_w yM whole_y cM whole_c cc0_scratch3 cc0_scratch4 cc0_scratch5 c v2 v19 v29 v1026 v1029 v1030 v1035)
        (fun _ => St m K c 17 16 16 0 4 4 ![.full 2, .full 3]) := by
  rw [k0_part31_eq_skeleton]
  unfold k0_part31_skel
  simp only [semSignalWord, semWaitWord, Prog.lift, Prog.bind_op, Prog.bind_ret, Prog.pure_eq_ret]
  refine recv_at 3 rfl rfl rfl ?_
  refine loadC_at 3 (by decide) rfl ?_
  refine wp_loadO fun _ => ?_
  refine storeO_at 0 3 rfl (off4_eq c 0 3) rfl ?_
  exact wp_end .rfl

/-- The wait for slot 4, its load, the store of row block 4. -/
theorem part32_ok (v2 v19 v1064 v1065 c4_i32_706 : BitVec 32) (v1066 : BitVec 1) (c1_i32_708 : BitVec 32) :
    St m K c 17 16 16 0 4 4 ![.full 2, .full 3] ⊢
      WP c (k0_part32 xM whole_x hM whole_h oM whole_o wM whole_w yM whole_y cM whole_c cc0_scratch3 cc0_scratch4 cc0_scratch5 c v2 v19 v1064 v1065 c4_i32_706 v1066 c1_i32_708)
        (fun _ => St m K c 17 16 16 0 5 5 ![.full 2, .full 3]) := by
  rw [k0_part32_eq_skeleton]
  unfold k0_part32_skel
  simp only [semSignalWord, semWaitWord, Prog.lift, Prog.bind_op, Prog.bind_ret, Prog.pure_eq_ret]
  refine recv_at 4 rfl rfl rfl ?_
  refine loadC_at 4 (by decide) rfl ?_
  refine wp_loadO fun _ => ?_
  refine storeO_at 1 0 rfl (off4_eq c 1 0) rfl ?_
  exact wp_end .rfl

/-- The wait for slot 5, its load, the store of row block 5. -/
theorem part33_ok (v2 v19 v29 v1093 v1094 : BitVec 32) (v1099 : BitVec 1) :
    St m K c 17 16 16 0 5 5 ![.full 2, .full 3] ⊢
      WP c (k0_part33 xM whole_x hM whole_h oM whole_o wM whole_w yM whole_y cM whole_c cc0_scratch3 cc0_scratch4 cc0_scratch5 c v2 v19 v29 v1093 v1094 v1099)
        (fun _ => St m K c 17 16 16 0 6 6 ![.full 2, .full 3]) := by
  rw [k0_part33_eq_skeleton]
  unfold k0_part33_skel
  simp only [semSignalWord, semWaitWord, Prog.lift, Prog.bind_op, Prog.bind_ret, Prog.pure_eq_ret]
  refine recv_at 5 rfl rfl rfl ?_
  refine loadC_at 5 (by decide) rfl ?_
  refine wp_loadO fun _ => ?_
  refine storeO_at 1 1 rfl (off4_eq c 1 1) rfl ?_
  exact wp_end .rfl

/-- The wait for slot 6, its load. -/
theorem part34_ok (v2 v29 v1129 c4_i32_756 : BitVec 32) (v1130 : BitVec 1) (c1_i32_758 : BitVec 32) :
    St m K c 17 16 16 0 6 6 ![.full 2, .full 3] ⊢
      WP c (k0_part34 xM whole_x hM whole_h oM whole_o wM whole_w yM whole_y cM whole_c cc0_scratch3 cc0_scratch4 cc0_scratch5 v2 v29 v1129 c4_i32_756 v1130 c1_i32_758)
        (fun r => iprop(⌜r.1 = k0_pay22 (landed m c 6)⌝ ∗ St m K c 17 16 16 0 7 6 ![.full 2, .full 3])) := by
  rw [k0_part34_eq_skeleton]
  unfold k0_part34_skel
  simp only [semSignalWord, semWaitWord, Prog.lift, Prog.bind_op, Prog.bind_ret, Prog.pure_eq_ret]
  refine recv_at 6 rfl rfl rfl ?_
  refine loadC_at 6 (by decide) rfl ?_
  exact wp_end (pure_sep rfl)

/-- The store of row block 6. -/
theorem part35_ok (v2 v19 v29 v1164 : BitVec 32) :
    St m K c 17 16 16 0 7 6 ![.full 2, .full 3] ⊢
      WP c (k0_part35 xM whole_x hM whole_h oM whole_o wM whole_w yM whole_y cM whole_c cc0_scratch3 cc0_scratch4 cc0_scratch5 c v2 v19 v29 (k0_pay22 (landed m c 6)) v1164)
        (fun _ => St m K c 17 16 16 0 7 7 ![.full 2, .full 3]) := by
  rw [k0_part35_eq_skeleton]
  unfold k0_part35_skel
  simp only [semSignalWord, semWaitWord, Prog.lift, Prog.bind_op, Prog.bind_ret, Prog.pure_eq_ret]
  refine wp_loadO fun _ => ?_
  refine storeO_at 1 2 rfl (off4_eq c 1 2) rfl ?_
  exact wp_end .rfl

/-- The wait for slot 7, its load, the store of row block 7. -/
theorem part36_ok (v2 v19 v29 v1190 : BitVec 32) :
    St m K c 17 16 16 0 7 7 ![.full 2, .full 3] ⊢
      WP c (k0_part36 xM whole_x hM whole_h oM whole_o wM whole_w yM whole_y cM whole_c cc0_scratch3 cc0_scratch4 cc0_scratch5 c v2 v19 v29 v1190)
        (fun _ => St m K c 17 16 16 0 8 8 ![.full 2, .full 3]) := by
  rw [k0_part36_eq_skeleton]
  unfold k0_part36_skel
  simp only [semSignalWord, semWaitWord, Prog.lift, Prog.bind_op, Prog.bind_ret, Prog.pure_eq_ret]
  refine recv_at 7 rfl rfl rfl ?_
  refine loadC_at 7 (by decide) rfl ?_
  refine wp_loadO fun _ => ?_
  refine storeO_at 1 3 rfl (off4_eq c 1 3) rfl ?_
  exact wp_end .rfl

/-- The wait for slot 8, its load, the store of row block 8. -/
theorem part37_ok (v19 v29 v1228 v1229 c0_i32_833 : BitVec 32) :
    St m K c 17 16 16 0 8 8 ![.full 2, .full 3] ⊢
      WP c (k0_part37 xM whole_x hM whole_h oM whole_o wM whole_w yM whole_y cM whole_c cc0_scratch3 cc0_scratch4 cc0_scratch5 c v19 v29 v1228 v1229 c0_i32_833)
        (fun _ => St m K c 17 16 16 0 9 9 ![.full 2, .full 3]) := by
  rw [k0_part37_eq_skeleton]
  unfold k0_part37_skel
  simp only [semSignalWord, semWaitWord, Prog.lift, Prog.bind_op, Prog.bind_ret, Prog.pure_eq_ret]
  refine recv_at 8 rfl rfl rfl ?_
  refine loadC_at 8 (by decide) rfl ?_
  refine wp_loadO fun _ => ?_
  refine storeO_at 2 0 rfl (off4_eq c 2 0) rfl ?_
  exact wp_end .rfl

/-- The wait for slot 9, its load, the store of row block 9. -/
theorem part38_ok (v2 v19 v29 v1254 v1257 v1258 : BitVec 32) (v1263 : BitVec 1) :
    St m K c 17 16 16 0 9 9 ![.full 2, .full 3] ⊢
      WP c (k0_part38 xM whole_x hM whole_h oM whole_o wM whole_w yM whole_y cM whole_c cc0_scratch3 cc0_scratch4 cc0_scratch5 c v2 v19 v29 v1254 v1257 v1258 v1263)
        (fun _ => St m K c 17 16 16 0 10 10 ![.full 2, .full 3]) := by
  rw [k0_part38_eq_skeleton]
  unfold k0_part38_skel
  simp only [semSignalWord, semWaitWord, Prog.lift, Prog.bind_op, Prog.bind_ret, Prog.pure_eq_ret]
  refine recv_at 9 rfl rfl rfl ?_
  refine loadC_at 9 (by decide) rfl ?_
  refine wp_loadO fun _ => ?_
  refine storeO_at 2 1 rfl (off4_eq c 2 1) rfl ?_
  exact wp_end .rfl

/-- The wait for slot 10, its load, the store of row block 10. -/
theorem part39_ok (v2 v19 v1292 v1293 c4_i32_880 : BitVec 32) (v1294 : BitVec 1) (c1_i32_882 : BitVec 32) :
    St m K c 17 16 16 0 10 10 ![.full 2, .full 3] ⊢
      WP c (k0_part39 xM whole_x hM whole_h oM whole_o wM whole_w yM whole_y cM whole_c cc0_scratch3 cc0_scratch4 cc0_scratch5 c v2 v19 v1292 v1293 c4_i32_880 v1294 c1_i32_882)
        (fun _ => St m K c 17 16 16 0 11 11 ![.full 2, .full 3]) := by
  rw [k0_part39_eq_skeleton]
  unfold k0_part39_skel
  simp only [semSignalWord, semWaitWord, Prog.lift, Prog.bind_op, Prog.bind_ret, Prog.pure_eq_ret]
  refine recv_at 10 rfl rfl rfl ?_
  refine loadC_at 10 (by decide) rfl ?_
  refine wp_loadO fun _ => ?_
  refine storeO_at 2 2 rfl (off4_eq c 2 2) rfl ?_
  exact wp_end .rfl

/-- The wait for slot 11, its load, the store of row block 11. -/
theorem part40_ok (v2 v19 v29 v1321 v1322 : BitVec 32) (v1327 : BitVec 1) :
    St m K c 17 16 16 0 11 11 ![.full 2, .full 3] ⊢
      WP c (k0_part40 xM whole_x hM whole_h oM whole_o wM whole_w yM whole_y cM whole_c cc0_scratch3 cc0_scratch4 cc0_scratch5 c v2 v19 v29 v1321 v1322 v1327)
        (fun _ => St m K c 17 16 16 0 12 12 ![.full 2, .full 3]) := by
  rw [k0_part40_eq_skeleton]
  unfold k0_part40_skel
  simp only [semSignalWord, semWaitWord, Prog.lift, Prog.bind_op, Prog.bind_ret, Prog.pure_eq_ret]
  refine recv_at 11 rfl rfl rfl ?_
  refine loadC_at 11 (by decide) rfl ?_
  refine wp_loadO fun _ => ?_
  refine storeO_at 2 3 rfl (off4_eq c 2 3) rfl ?_
  exact wp_end .rfl

/-- The wait for slot 12, its load. -/
theorem part41_ok (v2 v29 v1357 c4_i32_930 : BitVec 32) (v1358 : BitVec 1) (c1_i32_932 : BitVec 32) :
    St m K c 17 16 16 0 12 12 ![.full 2, .full 3] ⊢
      WP c (k0_part41 xM whole_x hM whole_h oM whole_o wM whole_w yM whole_y cM whole_c cc0_scratch3 cc0_scratch4 cc0_scratch5 v2 v29 v1357 c4_i32_930 v1358 c1_i32_932)
        (fun r => iprop(⌜r.1 = k0_pay28 (landed m c 12)⌝ ∗ St m K c 17 16 16 0 13 12 ![.full 2, .full 3])) := by
  rw [k0_part41_eq_skeleton]
  unfold k0_part41_skel
  simp only [semSignalWord, semWaitWord, Prog.lift, Prog.bind_op, Prog.bind_ret, Prog.pure_eq_ret]
  refine recv_at 12 rfl rfl rfl ?_
  refine loadC_at 12 (by decide) rfl ?_
  exact wp_end (pure_sep rfl)

/-- The store of row block 12. -/
theorem part42_ok (v2 v19 v29 v1392 : BitVec 32) :
    St m K c 17 16 16 0 13 12 ![.full 2, .full 3] ⊢
      WP c (k0_part42 xM whole_x hM whole_h oM whole_o wM whole_w yM whole_y cM whole_c cc0_scratch3 cc0_scratch4 cc0_scratch5 c v2 v19 v29 (k0_pay28 (landed m c 12)) v1392)
        (fun _ => St m K c 17 16 16 0 13 13 ![.full 2, .full 3]) := by
  rw [k0_part42_eq_skeleton]
  unfold k0_part42_skel
  simp only [semSignalWord, semWaitWord, Prog.lift, Prog.bind_op, Prog.bind_ret, Prog.pure_eq_ret]
  refine wp_loadO fun _ => ?_
  refine storeO_at 3 0 rfl (off4_eq c 3 0) rfl ?_
  exact wp_end .rfl

/-- The wait for slot 13, its load, the store of row block 13. -/
theorem part43_ok (v2 v19 v29 v1418 : BitVec 32) :
    St m K c 17 16 16 0 13 13 ![.full 2, .full 3] ⊢
      WP c (k0_part43 xM whole_x hM whole_h oM whole_o wM whole_w yM whole_y cM whole_c cc0_scratch3 cc0_scratch4 cc0_scratch5 c v2 v19 v29 v1418)
        (fun _ => St m K c 17 16 16 0 14 14 ![.full 2, .full 3]) := by
  rw [k0_part43_eq_skeleton]
  unfold k0_part43_skel
  simp only [semSignalWord, semWaitWord, Prog.lift, Prog.bind_op, Prog.bind_ret, Prog.pure_eq_ret]
  refine recv_at 13 rfl rfl rfl ?_
  refine loadC_at 13 (by decide) rfl ?_
  refine wp_loadO fun _ => ?_
  refine storeO_at 3 1 rfl (off4_eq c 3 1) rfl ?_
  exact wp_end .rfl

/-- The wait for slot 14, its load, the store of row block 14. -/
theorem part44_ok (v19 v29 v1456 v1457 c0_i32_1007 : BitVec 32) :
    St m K c 17 16 16 0 14 14 ![.full 2, .full 3] ⊢
      WP c (k0_part44 xM whole_x hM whole_h oM whole_o wM whole_w yM whole_y cM whole_c cc0_scratch3 cc0_scratch4 cc0_scratch5 c v19 v29 v1456 v1457 c0_i32_1007)
        (fun _ => St m K c 17 16 16 0 15 15 ![.full 2, .full 3]) := by
  rw [k0_part44_eq_skeleton]
  unfold k0_part44_skel
  simp only [semSignalWord, semWaitWord, Prog.lift, Prog.bind_op, Prog.bind_ret, Prog.pure_eq_ret]
  refine recv_at 14 rfl rfl rfl ?_
  refine loadC_at 14 (by decide) rfl ?_
  refine wp_loadO fun _ => ?_
  refine storeO_at 3 2 rfl (off4_eq c 3 2) rfl ?_
  exact wp_end .rfl

end Cert.GemmProof
-- ==== Proof.Ends.lean ====
/-
# The last receive and the waits for the sends
-/
module

public import proofs.«01_k».proof.Proof.Begin

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {k n v u t o : ℕ} {vs : Fin 2 → VS}

/-- The wait for slot 15, its load, the store of row block 15, the wait for send 0, the wait for send 1. -/
theorem part45_ok (v2 v1482 v1485 v1486 : BitVec 32) (v1491 : BitVec 1) :
    St m K c 17 16 16 0 15 15 ![.full 2, .full 3] ⊢
      WP c (k0_part45 xM whole_x hM whole_h oM whole_o wM whole_w yM whole_y cM whole_c cc0_scratch3 cc0_scratch4 cc0_scratch5 c v2 v1482 v1485 v1486 v1491)
        (fun _ => St m K c 17 16 16 2 16 16 ![.full 2, .full 3]) := by
  rw [k0_part45_eq_skeleton]
  unfold k0_part45_skel
  simp only [semSignalWord, semWaitWord, Prog.lift, Prog.bind_op, Prog.bind_ret, Prog.pure_eq_ret]
  refine recv_at 15 rfl rfl rfl ?_
  refine loadC_at 15 (by decide) rfl ?_
  refine wp_loadO fun _ => ?_
  refine storeO_at 3 3 rfl (off4_eq c 3 3) rfl ?_
  refine sent_at 0 0 rfl rfl (off2_eq c 0 0) ?_
  refine sent_at 0 1 rfl rfl (off2_eq c 0 1) ?_
  exact wp_end .rfl

/-- The wait for send 2, the wait for send 3, the wait for send 4, the wait for send 5. -/
theorem part46_ok :
    St m K c 17 16 16 2 16 16 ![.full 2, .full 3] ⊢
      WP c (k0_part46 xM whole_x hM whole_h oM whole_o wM whole_w yM whole_y cM whole_c cc0_scratch3 cc0_scratch4 cc0_scratch5 c)
        (fun _ => St m K c 17 16 16 6 16 16 ![.full 2, .full 3]) := by
  rw [k0_part46_eq_skeleton]
  unfold k0_part46_skel
  simp only [semSignalWord, semWaitWord, Prog.lift, Prog.bind_op, Prog.bind_ret, Prog.pure_eq_ret]
  refine sent_at 0 2 rfl rfl (off2_eq c 0 2) ?_
  refine sent_at 0 3 rfl rfl (off2_eq c 0 3) ?_
  refine sent_at 1 0 rfl rfl (off2_eq c 1 0) ?_
  refine sent_at 1 1 rfl rfl (off2_eq c 1 1) ?_
  exact wp_end .rfl

/-- The wait for send 6, the wait for send 7, the wait for send 8, the wait for send 9, the wait for send 10. -/
theorem part47_ok :
    St m K c 17 16 16 6 16 16 ![.full 2, .full 3] ⊢
      WP c (k0_part47 xM whole_x hM whole_h oM whole_o wM whole_w yM whole_y cM whole_c cc0_scratch3 cc0_scratch4 cc0_scratch5 c)
        (fun _ => St m K c 17 16 16 11 16 16 ![.full 2, .full 3]) := by
  rw [k0_part47_eq_skeleton]
  unfold k0_part47_skel
  simp only [semSignalWord, semWaitWord, Prog.lift, Prog.bind_op, Prog.bind_ret, Prog.pure_eq_ret]
  refine sent_at 1 2 rfl rfl (off2_eq c 1 2) ?_
  refine sent_at 1 3 rfl rfl (off2_eq c 1 3) ?_
  refine sent_at 2 0 rfl rfl (off2_eq c 2 0) ?_
  refine sent_at 2 1 rfl rfl (off2_eq c 2 1) ?_
  refine sent_at 2 2 rfl rfl (off2_eq c 2 2) ?_
  exact wp_end .rfl

/-- The wait for send 11, the wait for send 12, the wait for send 13, the wait for send 14. -/
theorem part48_ok :
    St m K c 17 16 16 11 16 16 ![.full 2, .full 3] ⊢
      WP c (k0_part48 xM whole_x hM whole_h oM whole_o wM whole_w yM whole_y cM whole_c cc0_scratch3 cc0_scratch4 cc0_scratch5 c)
        (fun _ => St m K c 17 16 16 15 16 16 ![.full 2, .full 3]) := by
  rw [k0_part48_eq_skeleton]
  unfold k0_part48_skel
  simp only [semSignalWord, semWaitWord, Prog.lift, Prog.bind_op, Prog.bind_ret, Prog.pure_eq_ret]
  refine sent_at 2 3 rfl rfl (off2_eq c 2 3) ?_
  refine sent_at 3 0 rfl rfl (off2_eq c 3 0) ?_
  refine sent_at 3 1 rfl rfl (off2_eq c 3 1) ?_
  refine sent_at 3 2 rfl rfl (off2_eq c 3 2) ?_
  exact wp_end .rfl

end Cert.GemmProof
-- ==== Proof.Whole.lean ====
/-
# The whole body
-/
module

public import proofs.«01_k».proof.Proof.Sends
public import proofs.«01_k».proof.Proof.Receives
public import proofs.«01_k».proof.Proof.Ends

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable {m : (ℓ : Loc nD τ sig) → Buf (Elt F) ℓ} {K : Dev nD × CK → ℕ} {c : Dev nD}
variable {k n v u t o : ℕ} {vs : Fin 2 → VS}

/-- A program that pins its result, and then another. -/
theorem wp_seq_pure {α β : Type} {p : Prog (TpuEff nD τ sig (Elt F) Λ₀ .tc) α} {k : α → Prog (TpuEff nD τ sig (Elt F) Λ₀ .tc) β}
    {φ : α → Prop} {P R : sProp 𝕄} {Q : β → sProp 𝕄} (h₁ : P ⊢ WP c p fun r => iprop(⌜φ r⌝ ∗ R)) (h₂ : ∀ r, φ r → (R ⊢ WP c (k r) Q)) :
    P ⊢ WP c (p >>= k) Q := by
  refine wp_seq h₁ fun r => ?_
  iintro ⟨%h, H⟩
  iapply (h₂ r h) $$ H

set_option maxHeartbeats 4000000 in
/-- The kernel's body, from the first state to the last. -/
theorem body_ok : St m K c 0 0 0 0 0 0 ![.free, .free] ⊢
      WP c (cc0_body xM whole_x hM whole_h oM whole_o wM whole_w yM whole_y cM whole_c cc0_scratch3 cc0_scratch4 cc0_scratch5)
        (fun _ => St m K c 17 16 16 16 16 16 ![.full 2, .full 3]) := by
  rw [cc0_body_eq_skeleton]
  unfold cc0_body_skel
  refine wp_seq_pure part1_ok fun r h => ?_
  obtain ⟨d0, v2, v19, v29, v32, v33, v34, v35, v36⟩ := r
  obtain rfl : d0 = c := h
  refine wp_seq_pure (part2_ok _ _ _ _ _ _) fun r h => ?_
  subst h
  refine wp_seq_pure (part3_ok _) fun r h => ?_
  subst h
  refine wp_seq_pure (part4_ok _) fun r h => ?_
  subst h
  refine wp_seq (part5_ok _ _) fun r => ?_
  refine wp_seq (part6_ok _ _ _ _) fun r => ?_
  refine wp_seq_pure (part7_ok _ _) fun r h => ?_
  subst h
  refine wp_seq (part8_ok _ _) fun _ => ?_
  refine wp_seq (part9_ok _ _) fun _ => ?_
  refine wp_seq (part10_ok _) fun _ => ?_
  refine wp_seq (part11_ok _) fun r => ?_
  refine wp_seq (part12_ok _ _ _ _ _) fun r => ?_
  refine wp_seq (part13_ok _ _ _ _ _) fun r => ?_
  refine wp_seq (part14_ok _ _ _ _ _) fun r => ?_
  refine wp_seq (part15_ok _ _ _ _ _) fun r => ?_
  refine wp_seq_pure (part16_ok _ _ _ _) fun r h => ?_
  subst h
  refine wp_seq (part17_ok _ _) fun _ => ?_
  refine wp_seq (part18_ok _ _ _) fun _ => ?_
  refine wp_seq (part19_ok _ _ _) fun _ => ?_
  refine wp_seq (part20_ok _ _ _) fun _ => ?_
  refine wp_seq_pure (part21_ok _ _) fun r h => ?_
  subst h
  refine wp_seq (part22_ok _ _) fun r => ?_
  refine wp_seq (part23_ok _ _ _ _ _ _) fun r => ?_
  refine wp_seq (part24_ok _ _ _ _ _) fun r => ?_
  refine wp_seq (part25_ok _ _ _ _ _ _) fun r => ?_
  refine wp_seq (part26_ok _ _ _ _ _ _) fun r => ?_
  refine wp_seq_pure (part27_ok _ _ _ _ _ _) fun r h => ?_
  obtain ⟨v935, v936⟩ := r
  obtain rfl : v935 = _ := h
  refine wp_seq (part28_ok _ _ _ _) fun _ => ?_
  refine wp_seq (part29_ok _ _ _ _) fun r => ?_
  refine wp_seq (part30_ok _ _ _ _ _) fun r => ?_
  refine wp_seq (part31_ok _ _ _ _ _ _ _) fun r => ?_
  refine wp_seq (part32_ok _ _ _ _ _ _ _) fun r => ?_
  refine wp_seq (part33_ok _ _ _ _ _ _) fun r => ?_
  refine wp_seq_pure (part34_ok _ _ _ _ _ _) fun r h => ?_
  obtain ⟨v1163, v1164⟩ := r
  obtain rfl : v1163 = _ := h
  refine wp_seq (part35_ok _ _ _ _) fun _ => ?_
  refine wp_seq (part36_ok _ _ _ _) fun r => ?_
  refine wp_seq (part37_ok _ _ _ _ _) fun r => ?_
  refine wp_seq (part38_ok _ _ _ _ _ _ _) fun r => ?_
  refine wp_seq (part39_ok _ _ _ _ _ _ _) fun r => ?_
  refine wp_seq (part40_ok _ _ _ _ _ _) fun r => ?_
  refine wp_seq_pure (part41_ok _ _ _ _ _ _) fun r h => ?_
  obtain ⟨v1391, v1392⟩ := r
  obtain rfl : v1391 = _ := h
  refine wp_seq (part42_ok _ _ _ _) fun _ => ?_
  refine wp_seq (part43_ok _ _ _ _) fun r => ?_
  refine wp_seq (part44_ok _ _ _ _ _) fun r => ?_
  refine wp_seq (part45_ok _ _ _ _ _) fun _ => ?_
  refine wp_seq part46_ok fun _ => ?_
  refine wp_seq part47_ok fun _ => ?_
  refine wp_seq part48_ok fun _ => ?_
  simp only [Prog.lift, Prog.bind_op, Prog.bind_ret, Prog.pure_eq_ret]
  refine sent_at 3 3 rfl rfl (off2_eq _ 3 3) ?_
  exact wp_end .rfl

end Cert.GemmProof
-- ==== Proof.Entry.lean ====
/-
# What a device enters the kernel with, and what it leaves with

`Φ₀` is what the launch gives a device beside the two staged windows, `Φ₁` what it takes back: every scratch buffer
whole, every semaphore at zero, the weights unchanged. The buffers are cut into the slots the protocol moves, and put
together again.
-/
module

public import proofs.«01_k».proof.Proof.Whole
public import Idealize.ShloMosaic.Lib.Ring

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (c : Dev nD)

/-! ## Buffers and their parts -/

/-- Sets told apart by a key are disjoint -/
theorem parts_disjoint {X T : Type} [DecidableEq X] (I : T → Finset X) (key : X → T) (h : ∀ t x, x ∈ I t ↔ key x = t) :
    ∀ b b', b ≠ b' → Disjoint (I b) (I b') := fun b b' hb =>
  Finset.disjoint_left.mpr fun x h1 h2 => hb (((h b x).mp h1).symm.trans ((h b' x).mp h2))
/-- and cover everything. -/
theorem parts_cover {X T : Type} [DecidableEq X] [Fintype X] [Fintype T] (I : T → Finset X) (key : X → T) (h : ∀ t x, x ∈ I t ↔ key x = t) :
    Finset.univ.biUnion I = Finset.univ :=
  Finset.eq_univ_iff_forall.mpr fun x => Finset.mem_biUnion.mpr ⟨key x, Finset.mem_univ _, (h _ x).mpr rfl⟩

abbrev cSet (t : Fin 16) : Finset S16x256x128.Idx := (cV t).view.set
abbrev ySetOf (i : Fin 16) : Finset S4x256x512.Idx := (yV i).view.set
abbrev wSet (s : Fin 2) : Finset S2x4096x512.Idx := (wV s).view.set
abbrev hSet (b : Fin 4) : Finset S4096x2048.Idx := (hV b).view.set

theorem cSet_key (t : Fin 16) (x : S16x256x128.Idx) : x ∈ cSet t ↔ (x 0 : Fin 16) = t := (mem_cV t x).trans Fin.ext_iff.symm
theorem wSet_key (s : Fin 2) (x : S2x4096x512.Idx) : x ∈ wSet s ↔ (x 0 : Fin 2) = s := (mem_wV s x).trans Fin.ext_iff.symm
def winOf (x : S4x256x512.Idx) : Fin 16 := ⟨wnum x, by
  have h0 : (x 0).val < 4 := (x 0).isLt
  have h2 : (x 2).val < 512 := (x 2).isLt
  unfold wnum; omega⟩
theorem ySetOf_key (i : Fin 16) (x : S4x256x512.Idx) : Iff (x ∈ ySetOf i) (winOf x = i) :=
  (mem_yV i x).trans (Fin.ext_iff (a := winOf x) (b := i)).symm
def colOf (x : S4096x2048.Idx) : Fin 4 := ⟨(x 1).val / 512, by have h : (x 1).val < 2048 := (x 1).isLt; omega⟩
theorem hSet_key (b : Fin 4) (x : S4096x2048.Idx) : Iff (x ∈ hSet b) (colOf x = b) :=
  (mem_hV b x).trans (Fin.ext_iff (a := colOf x) (b := b)).symm

abbrev wholeAt {sp : Space} {s : Shape} {e : EltTy} (M : Memref sig .tc sp s e) (f : Buf (Elt F) (M.view.loc (c : Thread nD τ))) : sProp 𝕄 :=
  iprop((M.view.loc (c : Thread nD τ)) ↦{fullShare} f)

/-- A part of a buffer holds something, -/
theorem some_owns {sp : Space} {s : Shape} {e : EltTy} (M : Memref sig .tc sp s e) (f : Buf (Elt F) (M.view.loc (c : Thread nD τ))) :
    ((M.view.loc (c : Thread nD τ)) ↦[M.view.set]{fullShare} f : sProp 𝕄) ⊢ iprop(∃ X, owns (c : Thread nD τ) M fullShare X) := by
  unfold owns
  iintro H
  iexists _
  iexists f
  isplitr; · ipureintro; rfl
  iexact H
/-- whatever it is. -/
theorem owns_some {sp : Space} {s : Shape} {e : EltTy} (M : Memref sig .tc sp s e) :
    (iprop(∃ X, owns (c : Thread nD τ) M fullShare X) : sProp 𝕄) ⊢ iprop(∃ f, (M.view.loc (c : Thread nD τ)) ↦[M.view.set]{fullShare} f) := by
  unfold owns
  iintro ⟨%X, %f, -, H⟩
  iexists f
  iexact H

/-- The landing buffer is its slots, -/
theorem slots_split (f : Buf (Elt F) (cM.view.loc (c : Thread nD τ))) :
    wholeAt c cM f ⊢ bigSep Finset.univ fun e : Dev nD => barPay (F := F) e c := by
  rw [bigSep_univ_equiv (slots c) (fun e : Dev nD => barPay (F := F) e c)]
  refine (Entails.of_eq (Ring.pointsTo_blocks (ℓ := cM.view.loc (c : Thread nD τ)) cSet (parts_disjoint cSet _ cSet_key)
    (parts_cover cSet _ cSet_key) f)).trans (bigSep_mono fun t _ => ?_)
  rw [slots_apply]
  unfold barPay
  rw [slot_src]
  exact some_owns c (cV t) f

/-- and its slots, whatever they hold, are the buffer. -/
theorem slots_join : (bigSep Finset.univ fun t : Fin 16 => iprop(∃ X, owns (c : Thread nD τ) (cV t) fullShare X) : sProp 𝕄)
    ⊢ iprop(∃ f, wholeAt c cM f) := by
  refine (bigSep_mono fun t _ => ?_).trans (Ring.pointsTo_blocks_join_exists (ℓ := cM.view.loc (c : Thread nD τ)) cSet (parts_disjoint cSet _ cSet_key)
    (parts_cover cSet _ cSet_key) (fun _ => Scalar.ofBits .bf16 0#16))
  exact owns_some c (cV t)

/-- The outgoing buffer is its windows, each back from its send. -/
theorem windows_join : (bigSep Finset.univ fun i : Fin 16 => sendPay (F := F) c (tsl c i)) ⊢ iprop(∃ f, wholeAt c yM f) := by
  refine (bigSep_mono fun i _ => ?_).trans (Ring.pointsTo_blocks_join_exists (ℓ := yM.view.loc (c : Thread nD τ)) ySetOf (parts_disjoint ySetOf _ ySetOf_key)
    (parts_cover ySetOf _ ySetOf_key) (fun _ => Scalar.ofBits .bf16 0#16))
  unfold sendPay
  rw [← landings_apply, Equiv.symm_apply_apply]
  exact Entails.refl _

theorem ySet_zero : ySet 0 = Finset.univ := Finset.filter_true_of_mem fun _ _ => Nat.zero_le _

/-- The buffer of weights is its two slots, -/
theorem weights_split (f : Buf (Elt F) (wM.view.loc (c : Thread nD τ))) :
    wholeAt c wM f ⊢ bigSep Finset.univ fun s : Fin 2 => iprop(∃ X, owns (c : Thread nD τ) (wV s) fullShare X) := by
  refine (Entails.of_eq (Ring.pointsTo_blocks (ℓ := wM.view.loc (c : Thread nD τ)) wSet (parts_disjoint wSet _ wSet_key)
    (parts_cover wSet _ wSet_key) f)).trans (bigSep_mono fun s _ => ?_)
  exact some_owns c (wV s) f
/-- and its slots are the buffer. -/
theorem weights_join : (bigSep Finset.univ fun s : Fin 2 => iprop(∃ X, owns (c : Thread nD τ) (wV s) fullShare X) : sProp 𝕄)
    ⊢ iprop(∃ f, wholeAt c wM f) := by
  refine (bigSep_mono fun t _ => ?_).trans (Ring.pointsTo_blocks_join_exists (ℓ := wM.view.loc (c : Thread nD τ)) wSet (parts_disjoint wSet _ wSet_key)
    (parts_cover wSet _ wSet_key) (fun _ => Scalar.ofBits .bf16 0#16))
  exact owns_some c (wV t)

/-- The weights are their column blocks. -/
theorem homes_eq : wholeAt c hM (wts m c) = bigSep Finset.univ fun g : Fin 4 => Home m c g := by
  refine (Ring.pointsTo_blocks (ℓ := hM.view.loc (c : Thread nD τ)) hSet (parts_disjoint hSet _ hSet_key)
    (parts_cover hSet _ hSet_key) (wts m c)).trans ?_
  rw [bigSep_univ_equiv (colBlks c)]
  exact bigSep_congr fun g _ => rfl

/-- Over the slots is over the sends. -/
theorem bigSep_tsl (Φ : Fin 16 → sProp 𝕄) : bigSep Finset.univ Φ = bigSep Finset.univ fun i => Φ (tsl c i) := bigSep_univ_equiv (landings c) Φ

/-! ## Entry -/

/-- The ghost state of a device: its place at each of its cells, the duties it is to pay at the others' barriers, at its
    own sends and at the others' landings, and the counters of its two local copies. -/
def lin : sProp 𝕄 :=
  iprop((bigSep Finset.univ fun k : CK => atPos ER (kcell (c, k)) 0 ∅ 0)
    ∗ (bigSep (Finset.univ.erase c) fun e : Dev nD => dutyTok ER (barCell e) 0 c)
    ∗ (bigSep Finset.univ fun i : Fin 16 => iprop(dutyTok ER (sendCell c (tsl c i)) 0 0 ∗ dutyTok ER (recvCell (dst c i) (tsl c i)) 0 0))
    ∗ (bigSep Finset.univ fun s : Fin 2 => semVal (copyCell c s) 0))

/-- What a device is credited at the start. -/
def credit : sProp 𝕄 :=
  iprop(cred (tallyAt (barCell c) () 15) ∗ bigSep Finset.univ fun t : Fin 16 => cred (tallyAt (recvCell c t) () N))

/-- What is given beside the scratch buffers. -/
def start : sProp 𝕄 := iprop((∃ K, Rec m K ∗ lin c) ∗ credit c ∗ wholeAt c hM (wts m c))
/-- The scratch buffers. -/
def scr : sProp 𝕄 := iprop((∃ f, wholeAt c wM f) ∗ (∃ f, wholeAt c yM f) ∗ (∃ f, wholeAt c cM f))
def Φ₀ : sProp 𝕄 := iprop(start m c ∗ scr c)

/-- The semaphores of the kernel, at zero. -/
def zeros : sProp 𝕄 :=
  iprop((bigSep Finset.univ fun s : Fin 2 => semVal (copyCell c s) 0)
    ∗ (bigSep Finset.univ fun t : Fin 16 => semVal (sendCell c t) 0) ∗ (bigSep Finset.univ fun t : Fin 16 => semVal (recvCell c t) 0))
def Φ₁ : sProp 𝕄 := iprop((semVal (barCell c) 0 ∗ wholeAt c hM (wts m c)) ∗ zeros c ∗ scr c)

/-- The signals: the token and the landing slot each hands over. -/
theorem sig_all (c : Dev nD) : (iprop((bigSep (Finset.univ.erase c) fun e : Dev nD => dutyTok ER (barCell e) 0 c)
      ∗ bigSep Finset.univ fun e : Dev nD => barPay e c) : sProp 𝕄)
    ⊢ iprop(barPay c c ∗ bigSep (From 0) fun e => SigRes c e) := by
  rw [From_zero, bigSep_out (Finset.mem_univ c) (Φ := fun e => SigRes (F := F) c e), bigSep_out (Finset.mem_univ c) (Φ := fun e => barPay (F := F) e c),
    bigSep_congr (s := Finset.univ.erase c) (Φ := fun e => SigRes (F := F) c e) (Ψ := fun e => iprop(dutyTok ER (barCell e) 0 c ∗ barPay e c))
      fun e he => if_neg (Finset.ne_of_mem_erase he), bigSep_sep']
  iintro ⟨Ht, Hc, Hp⟩
  isplitl [Hc]; · iexact Hc
  isplitr
  · unfold SigRes; rw [if_pos rfl]; iempintro
  isplitl [Ht] <;> iassumption

theorem home_free : home ![.free, .free] = Finset.univ := by decide
theorem home_full : home ![.full 2, .full 3] = Finset.univ := by decide

/-- Over a device's cells: its barrier, its sends, its landings. -/
theorem bigSep_CK (Φ : CK → sProp 𝕄) : bigSep Finset.univ Φ
    = iprop(Φ (.inl ()) ∗ (bigSep Finset.univ fun t => Φ (.inr (.inl t))) ∗ bigSep Finset.univ fun t => Φ (.inr (.inr t))) := by
  rw [bigSep_univ_sum, bigSep_univ_sum, bigSep_univ_of_subsingleton (I := Unit) ()]
  rfl

/-- What a device starts its body with. -/
theorem enter (c : Dev nD) : iprop(Φ₀ m c ∗ Ow c 0 0 ∗ Xin m c ∗ ∃ f, wholeAt c oM f)
    ⊢ iprop(∃ K, St m K c 0 0 0 0 0 0 ![.free, .free]) := by
  unfold Φ₀ start lin credit scr
  rw [bigSep_CK]
  iintro ⟨⟨⟨⟨%K, HR, ⟨HaB, HaS, HaV⟩, HtB, HtS, Hz⟩, ⟨HcB, HcV⟩, Hh⟩, ⟨%f0, Hw⟩, ⟨%f1, Hy⟩, ⟨%f2, Hc⟩⟩, HO, HX, ⟨%f3, Ho⟩⟩
  iexists K
  ihave Hsl := (slots_split c f2) $$ Hc
  ihave Hsg := (sig_all (F := F) c) $$ [HtB Hsl]
  · isplitl [HtB] <;> iassumption
  icases Hsg with ⟨Hcc, Hsg⟩
  ihave Hws := (weights_split c f0) $$ Hw
  ihave Hhs := (Entails.of_eq (homes_eq m c)) $$ Hh
  unfold St Bar Bar0 Yb Snd Rcv Outb Wb
  rw [if_pos (Nat.zero_le _), home_free, From_zero, Below_zero, Mid_zero, bigSep_empty, bigSep_empty, bigSep_empty, ySet_zero, bigSep_fin_two (fun s => WSlot m c s _)]
  isplitl [HR]; · iexact HR
  isplitl [HO]; · iexact HO
  isplitl [HaB HcB Hcc Hsg]
  · isplitl [HaB]; · iexact HaB
    isplitl [HcB]; · iexact HcB
    isplitl [Hcc] <;> iassumption
  isplitl [Hy]
  · iexists f1
    isplitr; · ipureintro; intro x _ h; omega
    iexact Hy
  isplitl [HtS HaS]
  · isplitl [HtS]; · iexact HtS
    isplitr; · iempintro
    isplitl [HaS]
    · ihave H := (Entails.of_eq (bigSep_tsl c (fun t : Fin 16 => (atPos ER (sendCell c t) 0 ∅ 0 : sProp 𝕄)))) $$ HaS
      iexact H
    iempintro
  isplitl [HaV HcV]
  · isplitl [HaV HcV]
    · rw [bigSep_sep']
      isplitl [HaV] <;> iassumption
    iempintro
  isplitl [HX]; · iexact HX
  isplitl [Ho]
  · iexists f3
    isplitr; · ipureintro; intro p h; omega
    iexact Ho
  isplitl [Hhs]; · iexact Hhs
  ihave Hq := (Entails.of_eq (bigSep_sep' Finset.univ (fun s : Fin 2 => iprop(∃ X, owns (c : Thread nD τ) (wV s) fullShare X)) (fun s : Fin 2 => (semVal (copyCell c s) 0 : sProp 𝕄))).symm) $$ [Hws Hz]
  · isplitl [Hws] <;> iassumption
  ihave Hq' := (Entails.of_eq (bigSep_fin_two _)) $$ Hq
  iexact Hq'

/-! ## Exit -/

/-- A buffer of weights when its last block has been used. -/
theorem slot_full (s : Fin 2) (g : Fin 4) : WSlot m c s (.full g)
    ⊢ iprop((∃ X, owns (c : Thread nD τ) (wV s) fullShare X) ∗ semVal (copyCell c s) 0) := by
  unfold WSlot
  iintro ⟨H, Hz⟩
  isplitl [H]; · iexists _; iexact H
  iexact Hz
theorem slots_full : (bigSep Finset.univ fun s : Fin 2 => WSlot m c s (![.full 2, .full 3] s) : sProp 𝕄)
    ⊢ iprop((bigSep Finset.univ fun s : Fin 2 => iprop(∃ X, owns (c : Thread nD τ) (wV s) fullShare X)) ∗ bigSep Finset.univ fun s : Fin 2 => semVal (copyCell c s) 0) :=
  (bigSep_mono fun s _ => by
    rcases s with ⟨_ | _ | _, h⟩
    · exact slot_full m c _ _
    · exact slot_full m c _ _
    · omega).trans (Entails.of_eq (bigSep_sep' _ _ _))
/-- The landing buffer when every block has arrived. -/
theorem landed_some (t : Fin 16) : recvPay m c t ⊢ iprop(∃ X, owns (c : Thread nD τ) (cV t) fullShare X) := by
  unfold recvPay
  iintro H
  iexists _
  iexact H
theorem landed_join : (bigSep Finset.univ fun t : Fin 16 => recvPay m c t) ⊢ iprop(∃ f, wholeAt c cM f) :=
  (bigSep_mono fun t _ => landed_some m c t).trans (slots_join c)

/-- What a device ends its body with. -/
theorem leave (K : Dev nD × CK → ℕ) (c : Dev nD) : St m K c 17 16 16 16 16 16 ![.full 2, .full 3]
    ⊢ iprop(Φ₁ m c ∗ Ow c 17 16 ∗ Xin m c ∗ wholeAt c oM (outAt m c)) := by
  unfold St Bar Bar1 Yb Snd Rcv Outb Wb Φ₁ zeros scr
  rw [if_neg (by decide), home_full, From_last, Below_last, Mid_end, bigSep_sep', bigSep_sep', bigSep_sep', bigSep_sep', homes_eq]
  iintro ⟨-, HO, ⟨HzB, -⟩, -, ⟨-, -, -, HzS, HpS⟩, ⟨-, HzV, HpV⟩, HX, ⟨%f, %hf, Ho⟩, Hh, Hw⟩
  obtain rfl : f = outAt m c := funext fun p => hf p (slot (rowDev p) c).isLt
  ihave Hw' := (slots_full m c) $$ Hw
  icases Hw' with ⟨Hw, HzW⟩
  ihave HwJ := (weights_join (F := F) c) $$ Hw
  ihave HyJ := (windows_join (F := F) c) $$ HpS
  ihave HcJ := (landed_join m c) $$ HpV
  ihave HzS' := (Entails.of_eq (bigSep_tsl c (fun t : Fin 16 => (semVal (sendCell c t) 0 : sProp 𝕄))).symm) $$ HzS
  isplitl [HzB Hh HzW HzS' HzV HwJ HyJ HcJ]
  · isplitl [HzB Hh]
    · isplitl [HzB] <;> iassumption
    isplitl [HzW HzS' HzV]
    · isplitl [HzW]; · iexact HzW
      isplitl [HzS'] <;> iassumption
    isplitl [HwJ]; · iexact HwJ
    isplitl [HyJ] <;> iassumption
  isplitl [HO]; · iexact HO
  isplitl [HX] <;> iassumption

end Cert.GemmProof
-- ==== Proof.Tokens.lean ====
/-
# The ghost state at the start, dealt to the devices

Every device's cells are allocated at once; the duties' tokens, minted at the cell they are of, go to the device that
pays: a barrier's to the device it names, a landing's to the sender. What each device owes at the start is what the
others are credited.
-/
module

public import proofs.«01_k».proof.Proof.Entry

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (c : Dev nD)

/-! ## Cells and tokens -/

/-- The kernel's own semaphores: the local copies', the sends', the landings'. -/
abbrev OK : Type := Fin 2 ⊕ (Fin 16 ⊕ Fin 16)
abbrev osem : OK → SemLoc sig
  | .inl s => .dma (copyS s)
  | .inr (.inl t) => .dma (sendS t)
  | .inr (.inr t) => .dma (recvS t)

set_option maxHeartbeats 1000000 in
theorem ownSemFacts : Pipeline.OwnSemFacts cfg0.spec osem := by decide +kernel

def meshCells : Finset (GSem nD τ sig) := Finset.univ.map ⟨kcell, kcell_injective⟩

/-- The duties of a device's cells: its barrier's, one for each device; its sends'; its landings'. -/
abbrev TK : Type := Dev nD ⊕ (Fin 16 ⊕ Fin 16)
abbrev tokOf (cj : Dev nD × TK) : GSem nD τ sig × ℕ × Dev nD :=
  match cj.2 with
  | .inl d => (barCell cj.1, 0, d)
  | .inr (.inl t) => (sendCell cj.1 t, 0, 0)
  | .inr (.inr t) => (recvCell cj.1 t, 0, 0)
/-- Read back: the kind of its cell and the device it names. -/
def tokRead (x : GSem nD τ sig × ℕ × Dev nD) : Dev nD × Option CK × Dev nD := (x.1.1.1, kindOf x.1.2, x.2.2)

theorem tokOf_injective : Function.Injective (tokOf : Dev nD × TK → GSem nD τ sig × ℕ × Dev nD) := by
  rintro ⟨c, j⟩ ⟨c', j'⟩ h
  have hr := congrArg tokRead h
  have h1 : c = c' := by
    have := congrArg Prod.fst hr
    rcases j with j | j | j <;> rcases j' with j' | j' | j' <;> exact this
  subst h1
  have h2 := congrArg Prod.snd hr
  rcases j with j | j | j <;> rcases j' with j' | j' | j' <;>
    simp only [tokRead, tokOf, kindOf_bar, kindOf_send, kindOf_recv, Prod.mk.injEq, Option.some.injEq, Sum.inr.injEq, Sum.inl.injEq, reduceCtorEq, false_and, true_and, and_true] at h2 <;>
    subst h2 <;> rfl
def meshToks : Finset (GSem nD τ sig × ℕ × Dev nD) := Finset.univ.map ⟨tokOf, tokOf_injective⟩

def u₀ : UU :=
  (initOf (Pipeline.cells cfgs cellOf_inj) (Pipeline.launchToks cfgs cellOf_inj), (initOf meshCells meshToks, 1))

/-- The tokens of a device's own cells. -/
def toks : sProp 𝕄 :=
  iprop((bigSep Finset.univ fun d : Dev nD => dutyTok ER (barCell c) 0 d)
    ∗ (bigSep Finset.univ fun t : Fin 16 => dutyTok ER (sendCell c t) 0 0) ∗ (bigSep Finset.univ fun t : Fin 16 => dutyTok ER (recvCell c t) 0 0))

/-- What a device is dealt before the cells are opened, -/
def G : sProp 𝕄 :=
  iprop((bigSep Finset.univ fun k : CK => roundState ER (meshRd m) (kcell (c, k)) 0)
    ∗ (bigSep Finset.univ fun k : CK => iprop(atPos ER (kcell (c, k)) 0 ∅ 0 ∗ reached ER (kcell (c, k)) 0)) ∗ toks c)

/-- The cells' invariants and that each is at its round 0. -/
def cellRec (K : Dev nD × CK → ℕ) : sProp 𝕄 :=
  bigSep Finset.univ fun ck : Dev nD × CK => iprop(cellInv ER (meshRd m) (K ck) (kcell ck) ∗ reached ER (kcell ck) 0)
instance cellRec_persistent (K : Dev nD × CK → ℕ) : BI.Persistent (cellRec m K) := by unfold cellRec; infer_instance

/-- and after. -/
def G' : sProp 𝕄 := iprop(∃ K, cellRec m K ∗ lin c)

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : CK => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]
    exact bigSep_congr fun c _ => by unfold toks; rw [bigSep_univ_sum, bigSep_univ_sum]; rfl
  iintro HX
  imod (Rounds.fund ER (meshRd m) meshCells meshToks) $$ HX with ⟨Hst, Hr, Hat, Htok⟩
  imodintro
  ihave Hst' := (Entails.of_eq (hX fun g => roundState ER (meshRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

abbrev own0 : sProp 𝕄 := Pipeline.ownSems0 (Ix := Unit) (Name := ℕ) (U := UU) (Lvl := ℕ) (Val := Elt F) (τ := τ) osem c

theorem own0_eq : own0 (F := F) c = zeros c := by
  unfold own0 Pipeline.ownSems0 zeros
  rw [bigSep_univ_sum, bigSep_univ_sum]
  rfl
/-- The barrier's semaphore is the launch's one unscoped semaphore. -/
theorem unscopedSems0_eq : (unscopedSems0 c : sProp 𝕄) = semVal (barCell c) 0 := by
  unfold unscopedSems0; rw [bigSep_eq_bigSepL_of_eq [SemLoc.reg barS] (by decide +kernel) (by decide)]; rfl

theorem sems0_split : iprop(own0 c ∗ unscopedSems0 c)
    ⊢ (iprop((bigSep Finset.univ fun k : CK => semVal (kcell (c, k)) 0) ∗ bigSep Finset.univ fun s : Fin 2 => semVal (copyCell c s) 0) : sProp 𝕄) := by
  rw [own0_eq, unscopedSems0_eq, bigSep_CK]
  unfold zeros
  iintro ⟨⟨HC, HS, HV⟩, HB⟩
  isplitr [HC]
  · isplitl [HB]; · iexact HB
    isplitl [HS] <;> iassumption
  iexact HC

/-- What device `c` has once its cells are open. -/
def opened : sProp 𝕄 :=
  iprop((bigSep Finset.univ fun k : CK => iprop(∃ κ : ℕ, cellInv ER (meshRd m) κ (kcell (c, k))))
    ∗ (bigSep Finset.univ fun k : CK => iprop(atPos ER (kcell (c, k)) 0 ∅ 0 ∗ reached ER (kcell (c, k)) 0)) ∗ toks c
    ∗ bigSep Finset.univ fun s : Fin 2 => semVal (copyCell c s) 0)

theorem core_alloc : iprop(own0 c ∗ unscopedSems0 c ∗ G m c) ⊢ |={Set.univ}=> opened m c := by
  unfold G opened
  iintro ⟨Hos, Hus, Hst, Hat, Htok⟩
  ihave Hv := (sems0_split (F := F) c) $$ [Hos Hus]
  · isplitl [Hos] <;> iassumption
  icases Hv with ⟨Hv, HC⟩
  imod (show iprop((bigSep Finset.univ fun k : CK => semVal (kcell (c, k)) 0) ∗ bigSep Finset.univ fun k : CK => roundState ER (meshRd m) (kcell (c, k)) 0)
      ⊢ (|={Set.univ}=> bigSep Finset.univ fun k => iprop(∃ κ : ℕ, cellInv ER (meshRd m) κ (kcell (c, k))) : sProp 𝕄) from by
        rw [← bigSep_sep']
        exact (bigSep_mono fun k _ => (Rounds.body_intro ER (meshRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens to who pays -/

/-- A device's sends are, all together, the devices' landings. -/
def crossing : Dev nD × Fin 16 ≃ Dev nD × Fin 16 :=
  ⟨fun ci => (dst ci.1 ci.2, tsl ci.1 ci.2), fun dt => (src dt.1 dt.2, sendTo (src dt.1 dt.2) dt.1),
    fun ⟨c, i⟩ => by
      show (src (dst c i) (tsl c i), sendTo (src (dst c i) (tsl c i)) (dst c i)) = (c, i)
      rw [src_tsl, sendTo_dst], fun ⟨d, t⟩ => by
      show (dst (src d t) (sendTo (src d t) d), slot (src d t) d) = (d, t)
      rw [dst_sendTo, slot_src]⟩

def payToks : sProp 𝕄 :=
  iprop((bigSep (Finset.univ.erase c) fun e : Dev nD => dutyTok ER (barCell e) 0 c)
    ∗ (bigSep Finset.univ fun i : Fin 16 => iprop(dutyTok ER (sendCell c (tsl c i)) 0 0 ∗ dutyTok ER (recvCell (dst c i) (tsl c i)) 0 0)))

theorem toks_across : (bigSep Finset.univ fun c : Dev nD => (toks c : sProp 𝕄)) ⊢ bigSep Finset.univ fun c : Dev nD => payToks c := by
  have hb : (bigSep Finset.univ fun c : Dev nD => bigSep Finset.univ fun d : Dev nD => (dutyTok ER (barCell c) 0 d : sProp 𝕄))
      ⊢ bigSep Finset.univ fun d : Dev nD => bigSep (Finset.univ.erase d) fun e : Dev nD => dutyTok ER (barCell e) 0 d := by
    rw [← bigSep_erase_comm (fun e d : Dev nD => (dutyTok ER (barCell e) 0 d : sProp 𝕄))]
    exact bigSep_mono fun c _ => bigSep_subset (Finset.erase_subset _ _)
  have hs : (bigSep Finset.univ fun c : Dev nD => bigSep Finset.univ fun t : Fin 16 => (dutyTok ER (sendCell c t) 0 0 : sProp 𝕄))
      = bigSep Finset.univ fun c : Dev nD => bigSep Finset.univ fun i : Fin 16 => dutyTok ER (sendCell c (tsl c i)) 0 0 :=
    bigSep_congr fun c _ => bigSep_tsl c _
  have hr : (bigSep Finset.univ fun c : Dev nD => bigSep Finset.univ fun t : Fin 16 => (dutyTok ER (recvCell c t) 0 0 : sProp 𝕄))
      = bigSep Finset.univ fun c : Dev nD => bigSep Finset.univ fun i : Fin 16 => dutyTok ER (recvCell (dst c i) (tsl c i)) 0 0 := by
    rw [← bigSep_univ_prod (fun dt : Dev nD × Fin 16 => (dutyTok ER (recvCell dt.1 dt.2) 0 0 : sProp 𝕄)), bigSep_univ_equiv crossing, bigSep_univ_prod]
    rfl
  unfold toks payToks
  simp only [bigSep_sep']
  rw [hs, hr]
  iintro ⟨H1, H2, H3⟩
  ihave H1' := hb $$ H1
  isplitl [H1']; · iexact H1'
  isplitl [H2] <;> iassumption

theorem bigSep_with_rec {R : sProp 𝕄} [BI.Persistent R] {Φ Ψ : Dev nD → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem regroup : (bigSep Finset.univ fun c : Dev nD => opened m c) ⊢ bigSep Finset.univ (G' m) := by
  unfold opened
  simp only [bigSep_sep']
  rw [← bigSep_univ_prod (fun ck : Dev nD × CK => iprop(∃ κ : ℕ, cellInv ER (meshRd m) κ (kcell ck))),
    ← bigSep_univ_prod (fun ck : Dev nD × CK => (reached ER (kcell ck) 0 : sProp 𝕄))]
  iintro ⟨HI, ⟨Hat, #HR⟩, Htok, HC⟩
  ihave HK := (BI.bigSep_exists_pi Finset.univ (fun (ck : Dev nD × CK) (κ : ℕ) => (cellInv ER (meshRd m) κ (kcell ck) : sProp 𝕄))) $$ HI
  icases HK with ⟨%K, #HI⟩
  ihave Htk := (toks_across (F := F)) $$ Htok
  iapply (bigSep_with_rec (R := cellRec m K) (Φ := fun c => iprop((bigSep Finset.univ fun k : CK => atPos ER (kcell (c, k)) 0 ∅ 0) ∗ payToks c
      ∗ bigSep Finset.univ fun s : Fin 2 => semVal (copyCell c s) 0)) fun c => by
    unfold G' payToks lin
    iintro ⟨HR, Hat, ⟨Hb, Hs⟩, Hc⟩
    iexists K
    isplitl [HR]; · iexact HR
    isplitl [Hat]; · iexact Hat
    isplitl [Hb]; · iexact Hb
    isplitl [Hs] <;> iassumption)
  isplitr
  · unfold cellRec
    rw [bigSep_sep']
    isplitl; · iexact HI
    iexact HR
  simp only [bigSep_sep']
  isplitl [Hat]; · iexact Hat
  isplitl [Htk] <;> iassumption

/-- The global step: every device's semaphores at once. -/
theorem glob : (bigSep Finset.univ fun c => iprop(own0 c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

abbrev O₀ (c : Dev nD) : CellTallies nD τ sig Unit := Oall c 0 0

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {s t : Fin 16} : Iff (recvCell a s = recvCell b t) (a = b ∧ s = t) :=
  ⟨fun h => by
    have h' := kcell_injective (a₁ := (a, .inr (.inr s))) (a₂ := (b, .inr (.inr t))) h
    simp only [Prod.mk.injEq, Sum.inr.injEq] at h'
    exact h', fun h => by rw [h.1, h.2]⟩
theorem recv_ne_bar {a b : Dev nD} {t : Fin 16} : recvCell a t ≠ barCell b := fun h =>
  absurd (congrArg Prod.snd h) (fun h' => by cases h')

/-- What device `d` owes device `c`'s barrier: a unit unless it is `c`; -/
theorem owed_bar (d c : Dev nD) : O₀ d (barCell c) () = if d ≠ c then 1 else 0 := by
  unfold O₀ Oall Orecv Obar
  rw [Pi.add_apply, Finsupp.add_apply, Finset.sum_apply, Finsupp.finset_sum_apply, Finset.sum_apply, Finsupp.finset_sum_apply,
    Finset.sum_eq_zero fun i _ => by rw [tallyAt_ne_cell recv_ne_bar.symm]; rfl, Nat.zero_add,
    Finset.sum_congr rfl fun e _ => show tallyAt (barCell e) () 1 (barCell c) () = if c = e then 1 else 0 by
      rw [tallyAt_apply]; simp only [bar_eq_iff, and_true],
    Finset.sum_ite_eq]
  simp [ne_comm, eq_comm]

/-- and its landing slot `t`: a block if `d`'s go there. -/
theorem owed_recv (d c : Dev nD) (t : Fin 16) : O₀ d (recvCell c t) () = if d = src c t then N else 0 := by
  unfold O₀ Oall Orecv Obar
  rw [Pi.add_apply, Finsupp.add_apply, Finset.sum_apply, Finsupp.finset_sum_apply, Finset.sum_apply, Finsupp.finset_sum_apply,
    Finset.sum_eq_zero (s := Finset.erase _ _) fun i _ => by rw [tallyAt_ne_cell recv_ne_bar]; rfl, Nat.add_zero,
    Finset.sum_congr rfl fun i _ => show tallyAt (recvCell (dst d i) (tsl d i)) () N (recvCell c t) ()
        = if i = sendTo d c then (if d = src c t then N else 0) else 0 by
      rw [tallyAt_apply]
      simp only [recv_eq_iff, and_true]
      by_cases h : c = dst d i ∧ t = tsl d i
      · rw [if_pos h, if_pos (by rw [h.1, sendTo_dst]), if_pos (by rw [h.1, h.2, src_tsl])]
      · rw [if_neg h]
        by_cases hi : i = sendTo d c
        · rw [if_pos hi, if_neg fun hd => h ?_]
          subst hi
          rw [dst_sendTo]
          refine ⟨rfl, ?_⟩
          have := slot_src c t
          rw [← hd] at this
          exact this.symm
        · rw [if_neg hi],
    Finset.sum_ite_eq', if_pos (Finset.mem_filter.mpr ⟨Finset.mem_univ (sendTo d c), Nat.zero_le (sendTo d c).val⟩)]

theorem launch_bar : tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (t : Fin 16) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (src c t) fun _ => N,
    if_pos (Finset.mem_univ _)]

def recvSem : Fin 16 ↪ SemLoc sig := ⟨fun t => .dma (recvS t), fun s t h => by
  have h' := congrArg kindOf h
  simp only [kindOf_recv, Option.some.injEq, Sum.inr.injEq] at h'
  exact h'⟩

theorem recvSem_subset : Finset.univ.map recvSem ⊆ Finset.univ.erase (SemLoc.reg barS : SemLoc sig) := fun sm h => by
  obtain ⟨t, -, rfl⟩ := Finset.mem_map.mp h
  exact Finset.mem_erase.mpr ⟨(fun h' => by cases h'), Finset.mem_univ _⟩

theorem creds : (Pipeline.launchCred O₀ c : sProp 𝕄) ⊢ credit c := by
  unfold Pipeline.launchCred credit
  rw [bigSep_univ_at _ (SemLoc.reg barS), launch_bar]
  refine sep_mono_right ((bigSep_subset recvSem_subset).trans ?_)
  rw [bigSep_map]
  refine bigSep_mono fun t _ => ?_
  rw [← launch_recv c t]
  exact Entails.refl _

end Cert.GemmProof
-- ==== Proof.Run.lean ====
/-
# The run

The library's launch theorem at this kernel: from any memory with every counter at zero, every fair execution ends, with
each device's result at `outAt`, its arguments unchanged and every counter at zero again.
-/
module

public import proofs.«01_k».proof.Proof.Tokens
public import Idealize.ShloMosaic.Lib.Pipeline.CollectiveSegs
public import Idealize.ShloMosaic.Lib.Pipeline.ValueKit

@[expose] public section

set_option maxRecDepth 16384

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The pipeline's data -/

/-- The machine at the start. -/
def s₀ : MemSt nD τ sig (Elt F) := ⟨m, fun _ => 0, ρ⟩

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_buf (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost : sProp 𝕄 :=
  iprop(Φ₁ m c ∗ (dats m 0 c).owesAt () t0_0.succ ∗ stg c cc0_stg0_0 (xstg m c) ∗ stg c cc0_stg1_0 (outAt m c))

theorem pre_enter : bodyPre m c ⊢ iprop(Φ₀ m c ∗ Ow c 0 0 ∗ Xin m c ∗ ∃ f, wholeAt c oM f) := by
  unfold bodyPre Dat.owesAt Pipeline.owesWithin Ow Xin
  rw [show (dats m 0 c).owed t0_0.castSucc = O₀ c from rfl]
  iintro ⟨HΦ, ⟨%W, -, HO⟩, ⟨%d0, %g0, %hg0, Hx⟩, ⟨%d1, %g1, -, Ho⟩⟩
  have hx : g0 = xstg m c := by rw [hg0]; unfold Dat.before; rw [if_pos (fetch0_0 t0_0)]; rfl
  subst hx
  isplitl [HΦ]; · iexact HΦ
  isplitl [HO]; · iexists W; iexact HO
  isplitl [Hx]; · iexact Hx
  iexists g1
  iexact Ho

theorem leave_post : iprop(Φ₁ m c ∗ Ow c 17 16 ∗ Xin m c ∗ wholeAt c oM (outAt m c)) ⊢ bodyPost m c := by
  unfold bodyPost Dat.owesAt Pipeline.owesWithin Ow Xin
  rw [show (dats m 0 c).owed t0_0.succ = 0 from rfl, Oall_last c 17 (by omega)]
  iintro ⟨HΦ, ⟨%W, HO⟩, Hx, Ho⟩
  isplitl [HΦ]; · iexact HΦ
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

/-- The body, from what the pipeline gives to what it takes back. -/
theorem sound_body : bodyPre m c ⊢ WP c (cc0_body xM whole_x hM whole_h oM whole_o wM whole_w yM whole_y cM whole_c cc0_scratch3 cc0_scratch4 cc0_scratch5)
    (fun _ => bodyPost m c) := by
  refine (pre_enter m c).trans ((enter m c).trans ?_)
  iintro ⟨%K, H⟩
  iapply (body_ok.trans (wp_mono _ _ _ fun _ => (leave m K c).trans (leave_post m c))) $$ H

theorem body_obligation : BodyObligation (dats (F := F) m 0 c) (defs₀ (F := F)) 𝒱₀ () Set.univ := fun t => by
  rw [fin_N0 t]
  rw [bigSep_W0, bigSep_W0]
  simp only [owns_buf]
  exact sound_body m c

/-! ## The launch -/

theorem share_eq (w : Fin cfg0.W) : (dats m 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start cellRec
  iintro ⟨Hh, Hlev, Hcr, -, ⟨%K, HR, Hl⟩⟩
  ihave Hc := (creds (F := F) c) $$ Hcr
  imodintro
  isplitl
  · isplitl [HR Hl Hlev]
    · iexists K
      unfold Rec
      isplitl [HR Hlev]
      · isplitl [HR]; · iexact HR
        iexact Hlev
      iexact Hl
    isplitl [Hc]; · iexact Hc
    iexact Hh
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

/-- What a device keeps to the end: its barrier's counter at zero, its weights. -/
def kept : sProp 𝕄 := iprop(unscopedSems0 c ∗ wholeAt c hM (wts m c))

theorem phi1_exit : (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl, scopedRest0_eq]
  unfold Φ₁ scr kept
  rw [unscopedSems0_eq, ← own0_eq]

theorem kind_staged (w : Fin cfg0.W) (s : Fin (cfg0.win w).nbuf) : lvk (kindOf (.dma ((cfg0.win w).sem s))) = 0 := by
  revert w s; decide +kernel

theorem waits : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (kind_staged w s) 0 0
    · exact mayWait_of c _ 0 (kind_staged w s) 0 (only_zero _)

theorem kept_read (s' : Phys nD τ sig (Elt F)) : iprop(kept m c ∗ emp ∗ SI s')
    ⊢ |={Set.univ}=> iprop(⌜(∀ sm : SemLoc sig, sm.isScoped .tc = false → s'.mem.sem ((c.tc : Thread nD τ), sm) = 0)
        ∧ s'.mem.mem ((c : Thread nD τ).loc main_arg1) = wts m c⌝ ∗ SI s') := by
  unfold kept
  iintro ⟨⟨Hu, Hh⟩, -, HSI⟩
  ihave %h := (show iprop(wholeAt c hM (wts m c) ∗ SI s') ⊢ (⌜s'.mem.mem ((c : Thread nD τ).loc main_arg1) = wts m c⌝ : sProp 𝕄) from by
    iintro ⟨Hh, HSI⟩
    ihave %h := SI_pointsTo_agree $$ [Hh HSI]
    · isplitl [HSI] <;> iassumption
    ipureintro
    exact Buf.eq_of_forall_mem_univ h) $$ [Hh HSI]
  · isplitl [Hh] <;> iassumption
  imod (Pipeline.unscopedSems0_read (X := unscopedSems0 c) (c := c) fupd_intro s') $$ [Hu HSI] with ⟨%h', HSI⟩
  · isplitl [Hu] <;> iassumption
  imodintro
  isplitr; · ipureintro; exact ⟨h', h⟩
  iexact HSI

/-- What a window's array holds at the end. -/
def finalA (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = wts m c

/-- Every fair execution from zero counters ends, as said above. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR _ _) $$ HX
      icases HX' with ⟨HX, -⟩
      imod (fund_mesh m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = wts m c)
    (hY := kept_read m)
    (hQ := fun _ h hs => ⟨fun c => ⟨fun w => (h c).1 w, (h c).2.2.2⟩, sem_eq_zero hs fun c => (h c).2.2.1⟩)

/-- The input after the run is what it was. -/
theorem finalA_x : finalA m c (0 : Fin 2) = m (win0_0.arr.view.loc (c : Thread nD τ)) :=
  (dats (F := F) m 0 c).arrAt_in (0 : Fin 2) rfl _

/-- The one write-back covers the whole array: it ends holding what the body left. -/
theorem finalA_out : finalA m c (1 : Fin 2) = outAt m c := by
  funext i
  exact (dats m 0 c).arrAt_emb_eq_after_last (1 : Fin 2) t0_0 (by decide +kernel) i

end Cert.GemmProof
-- ==== Proof.Value.lean ====
/-
# What the kernel computes, over the extended reals

Each group that a device stores is the gelu of a block of products: its rows of `x` against one column block of the
weights. Here: one element of each stored piece, one element of the outgoing buffer, of the block that a device sends,
and of the result array of a device, each as the gelu of one row times one column.
-/
module

public import proofs.«01_k».proof.Proof.Run
public import Idealize.ShloMosaic.Lib.MatmulPlain
public import Idealize.ShloMosaic.Lib.Pipeline.ValueKit

@[expose] public section

set_option maxRecDepth 16384

noncomputable section

namespace Cert.GemmProof

open Cert.KernelIdeal Cert.KernelIdeal.Gen

open Idealize.ShloMosaic
open Idealize.ShloMosaic.TcCoe
open Idealize.SL Idealize.SL.Sem
open scoped BigOperators

variable {m : (ℓ : Loc nD τ sig) → Buf (Elt Ideal) ℓ} {c : Dev nD}

/-! ## The gelu, and the pieces stored -/

/-- The gelu of one number, in the kernel's order of operations. -/
def gel (y : EReal) : EReal :=
  Ideal.ofBits .f32 0x3F000000#32 * y
    * (Ideal.ofBits .f32 0x3F800000#32
      + Ideal.tanh (Ideal.ofBits .f32 0x3F4C422A#32 * (y + Ideal.ofBits .f32 0x3D372713#32 * y * y * y)))

/-- A row of `X` times a column of `W`. -/
def rowCol {M K N : ℕ} (X : (⟨2, ![M, K]⟩ : Shape).Idx → EReal) (W : (⟨2, ![K, N]⟩ : Shape).Idx → EReal) (r : Fin M) (q : Fin N) : EReal :=
  ∑ k : Fin K, X (ix2 r k) * W (ix2 k q)

/-- The kernel's product of its rows with half a column block: an element. -/
theorem prod_half (o : ℕ) (ho : o + 256 ≤ 512) (X : FVec Ideal S256x4096 .bf16) (W : S4096x512.Idx → EReal)
    (h : S4096x512.Slices ![0, o] S4096x256) (r : Fin 256) (q : Fin 256) :
    (FloatOps.matmul (F := Ideal) (φ₁ := .bf16) (φ₂ := .bf16) dot_S256x4096_S4096x256_S256x256_1_0_0_1_n_n none X
      (extractStridedSlice S4096x256 ![0, o] W h) (constant S256x256 .f32 0x00000000#32)) (ix2 r q)
      = rowCol X W r ⟨o + q.val, by omega⟩ := by
  refine (Ideal.matmul_plain_apply (M := 256) (K := 4096) (N := 256) none X _ _ r q).trans ?_
  show Ideal.ofBits .f32 0x00000000#32 + _ = _
  rw [Ideal.ofBits_zero_f32, zero_add]
  refine Finset.sum_congr rfl fun k _ => congrArg (X (ix2 r k) * ·) ?_
  refine extractStridedSlice_apply _ _ _ _ _ fun a => ?_
  fin_cases a
  · exact (Nat.zero_add _).symm
  · rfl

/-- The product with a whole column block: an element. -/
theorem prod_whole (X : FVec Ideal S256x4096 .bf16) (W : S4096x512.Idx → EReal) (r : Fin 256) (q : Fin 512) :
    (FloatOps.matmul (F := Ideal) (φ₁ := .bf16) (φ₂ := .bf16) dot_S256x4096_S4096x512_S256x512_1_0_0_1_n_n none X W
      (constant S256x512 .f32 0x00000000#32)) (ix2 r q)
      = rowCol X W r q := by
  refine (Ideal.matmul_plain_apply (M := 256) (K := 4096) (N := 512) none X W _ r q).trans ?_
  show Ideal.ofBits .f32 0x00000000#32 + _ = _
  rw [Ideal.ofBits_zero_f32, zero_add]
  rfl

theorem pay1_id (X : FVec Ideal S256x4096 .bf16) : k0_pay1 (F := Ideal) X = X := shapeCast_self X _

/-- The block as loaded, its leading axis dropped again, is the block. -/
theorem wld_cast (g : Fin 4) : shapeCast S4096x512 (wld m c g) shapeCasts_S1x4096x512_S4096x512 = wblk m c (colBlk c g) :=
  shapeCast_shapeCast _ _ _

/-- An element of a half group, of a whole group, once the leading axis of extent one is dropped. -/
theorem unit256 (v : S256x256.Idx → EReal) (r q : Fin 256) :
    shapeCast S1x256x256 v shapeCasts_S256x256_S1x256x256 (ix3 0 r q) = v (ix2 r q) := by
  refine (shapeCast_addUnit_apply ![256, 256] v _ _).trans (congrArg v (funext fun a => ?_))
  fin_cases a <;> rfl
theorem unit512 (v : S256x512.Idx → EReal) (r : Fin 256) (q : Fin 512) :
    shapeCast S1x256x512 v shapeCasts_S256x512_S1x256x512 (ix3 0 r q) = v (ix2 r q) := by
  refine (shapeCast_addUnit_apply ![256, 512] v _ _).trans (congrArg v (funext fun a => ?_))
  fin_cases a <;> rfl

/-- Device `c`'s group `g`, row `r`, column `q` of its 512. -/
def grp (m : (ℓ : Loc nD τ sig) → Buf (Elt Ideal) ℓ) (c : Dev nD) (g : Fin 4) (r : Fin 256) (q : Fin 512) : EReal :=
  gel (rowCol (xstg m c) (wblk m c (colBlk c g)) r q)

theorem pc0_at (r q : Fin 256) : pc0 m c (ix3 0 r q) = grp m c 0 r ⟨0 + q.val, by omega⟩ := by
  unfold pc0; rw [pay1_id]; unfold k0_pay2; rw [wld_cast]
  refine (unit256 _ r q).trans ?_
  exact congrArg gel (prod_half 0 (by decide) (xstg m c) (wblk m c (colBlk c 0)) _ r q)

theorem pc1_at (r q : Fin 256) : pc1 m c (ix3 0 r q) = grp m c 0 r ⟨256 + q.val, by omega⟩ := by
  unfold pc1; rw [pay1_id]; unfold k0_pay6 k0_pay4 k0_pay5 k0_pay3; dsimp only; rw [wld_cast]
  refine (unit256 _ r q).trans ?_
  exact congrArg gel (prod_half 256 (by decide) (xstg m c) (wblk m c (colBlk c 0)) _ r q)

theorem pc2_at (r : Fin 256) (q : Fin 512) : pc2 m c (ix3 0 r q) = grp m c 1 r q := by
  unfold pc2; rw [pay1_id]; unfold k0_pay7; rw [wld_cast]
  refine (unit512 _ r q).trans ?_
  exact congrArg gel (prod_whole (xstg m c) (wblk m c (colBlk c 1)) r q)

theorem pc3_at (r : Fin 256) (q : Fin 512) : pc3 m c (ix3 0 r q) = grp m c 2 r q := by
  unfold pc3; rw [pay1_id]; unfold k0_pay11 k0_pay9 k0_pay10 k0_pay8; dsimp only; rw [wld_cast]
  refine (unit512 _ r q).trans ?_
  exact congrArg gel (prod_whole (xstg m c) (wblk m c (colBlk c 2)) r q)

theorem pc4_at (r q : Fin 256) : pc4 m c (ix3 0 r q) = grp m c 3 r ⟨0 + q.val, by omega⟩ := by
  unfold pc4; rw [pay1_id]; unfold k0_pay14 k0_pay13 k0_pay12; dsimp only; rw [wld_cast]
  refine (unit256 _ r q).trans ?_
  exact congrArg gel (prod_half 0 (by decide) (xstg m c) (wblk m c (colBlk c 3)) _ r q)

theorem pc5_at (r q : Fin 256) : pc5 m c (ix3 0 r q) = grp m c 3 r ⟨256 + q.val, by omega⟩ := by
  unfold pc5; rw [pay1_id]; unfold k0_pay15; rw [wld_cast]
  refine (unit256 _ r q).trans ?_
  exact congrArg gel (prod_half 256 (by decide) (xstg m c) (wblk m c (colBlk c 3)) _ r q)

/-! ## The outgoing buffer -/

/-- Two halves make a group. -/
theorem halves (g : Fin 4) (lo hi : FVec Ideal S1x256x256 .bf16) (hlo : ∀ r q, lo (ix3 0 r q) = grp m c g r ⟨0 + q.val, by omega⟩)
    (hhi : ∀ r q, hi (ix3 0 r q) = grp m c g r ⟨256 + q.val, by omega⟩) (r : Fin 256) (q : Fin 512) :
    (if q.val < 256 then at256 lo r q.val else at256 hi r q.val) = grp m c g r q := by
  unfold at256
  split_ifs with h
  · refine (hlo r _).trans (congrArg (grp m c g r) (Fin.ext ?_)); show 0 + q.val % 256 = q.val; omega
  · refine (hhi r _).trans (congrArg (grp m c g r) (Fin.ext ?_)); show 256 + q.val % 256 = q.val; omega

theorem whole512 (g : Fin 4) (v : FVec Ideal S1x256x512 .bf16) (hv : ∀ r q, v (ix3 0 r q) = grp m c g r q) (r : Fin 256) (q : Fin 512) :
    at512 v r q.val = grp m c g r q :=
  (hv r _).trans (congrArg (grp m c g r) (Fin.ext (Nat.mod_eq_of_lt q.isLt)))

/-- The outgoing buffer at a group, a row and a column. -/
theorem ygrp_at (g : Fin 4) (r : Fin 256) (q : Fin 512) : ygrp m c g.val r q.val = grp m c g r q := by
  fin_cases g
  · exact halves 0 _ _ pc0_at pc1_at r q
  · exact whole512 1 _ pc2_at r q
  · exact whole512 2 _ pc3_at r q
  · exact halves 3 _ _ pc4_at pc5_at r q

/-! ## The inputs, read -/

theorem xstg_at (r : Fin 256) (k : Fin 4096) : xstg m c (ix2 r k) = m ((c : Thread nD τ).loc main_arg0) (ix2 r k) := by
  unfold xstg
  refine congrArg (m ((c : Thread nD τ).loc main_arg0)) (funext fun a => Fin.ext ?_)
  fin_cases a
  · exact win0_0.rect_emb_val_of_index_zero (0 : Fin 1) 0 (by decide +kernel) (ix2 r k)
  · exact win0_0.rect_emb_val_of_index_zero (0 : Fin 1) 1 (by decide +kernel) (ix2 r k)

theorem wblk_at (b : Fin 4) (k : Fin 4096) (q : Fin 512) :
    wblk m c b (ix2 k q) = m ((c : Thread nD τ).loc main_arg1) (ix2 k ⟨512 * b.val + q.val, by omega⟩) := by
  unfold wblk wts
  refine congrArg (m ((c : Thread nD τ).loc main_arg1)) (funext fun a => Fin.ext ?_)
  fin_cases a
  · exact (ValueKit.rect_emb_unit_val (s := S4096x2048) ![0, 512 * b.val] S4096x512.size (inbH b) (ix2 k q) 0).trans (Nat.zero_add _)
  · exact ValueKit.rect_emb_unit_val (s := S4096x2048) ![0, 512 * b.val] S4096x512.size (inbH b) (ix2 k q) 1

/-- A group's element as one row of the input times one column of the weights. -/
theorem grp_at (g : Fin 4) (r : Fin 256) (q : Fin 512) :
    grp m c g r q = gel (rowCol (m ((c : Thread nD τ).loc main_arg0)) (m ((c : Thread nD τ).loc main_arg1)) r
      ⟨512 * (colBlk c g).val + q.val, by omega⟩) := by
  unfold grp rowCol
  refine congrArg gel (Finset.sum_congr rfl fun k _ => ?_)
  rw [xstg_at, wblk_at]

/-! ## The block sent, and the result -/

/-- The group of device `s`'s send to `d`, and the column of the block's first column in the group. -/
theorem sendTo_col (s d : Dev nD) (q : Fin 128) :
    512 * (colBlk s ⟨(sendTo s d).val / 4, by omega⟩).val + (128 * ((sendTo s d).val % 4) + q.val) = 128 * d.val + q.val := by
  have : 512 * (colBlk s ⟨(sendTo s d).val / 4, by omega⟩).val + 128 * ((sendTo s d).val % 4) = 128 * d.val := by
    revert s d; decide +kernel
  omega

/-- What device `s` sends to device `d`: the gelu of `s`'s rows times `d`'s columns. -/
theorem yblk_at (s d : Dev nD) (r : Fin 256) (q : Fin 128) :
    yblk m s d (ix2 r q) = gel (rowCol (m ((s : Thread nD τ).loc main_arg0)) (m ((s : Thread nD τ).loc main_arg1)) r
      ⟨128 * d.val + q.val, by have : d.val < 16 := d.isLt; omega⟩) := by
  have hj : 128 * ((sendTo s d).val % 4) + q.val < 512 := by omega
  have e : yblk m s d (ix2 r q) = yfull m s (ix3 ⟨(sendTo s d).val / 4, by omega⟩ r ⟨128 * ((sendTo s d).val % 4) + q.val, hj⟩) := by
    unfold yblk
    rw [Memref.read_squeeze_slice (hc := shapeCasts_S1x256x128_S256x128)]
    refine (shapeCast_dropUnit_apply ![256, 128] _ _ _).trans (congrArg (yfull m s) (funext fun a => Fin.ext ?_))
    refine (ValueKit.rect_emb_unit_val (s := S4x256x512) ![(sendTo s d).val / 4, 0, 128 * ((sendTo s d).val % 4)] S1x256x128.size
      (inbY (sendTo s d)) (Fin.cons ⟨0, Nat.one_pos⟩ (ix2 r q)) a).trans ?_
    fin_cases a
    · rfl
    · exact Nat.zero_add _
    · rfl
  rw [e]
  refine (ygrp_at (m := m) (c := s) ⟨(sendTo s d).val / 4, by omega⟩ r ⟨_, hj⟩).trans ((grp_at _ _ _).trans ?_)
  exact congrArg (fun j => gel (rowCol _ _ r j)) (Fin.ext (sendTo_col s d q))

/-- The result of device `c`: row `p 0` is the sender's row, column `p 1` is the column of device `c`'s block. -/
theorem outAt_at (p : S4096x128.Idx) :
    outAt m c p = gel (rowCol (m ((rowDev p : Thread nD τ).loc main_arg0)) (m ((rowDev p : Thread nD τ).loc main_arg1))
      ⟨(p 0).val % 256, Nat.mod_lt _ (by decide)⟩ ⟨128 * c.val + (p 1).val, by
        have : c.val < 16 := c.isLt
        have : (p 1).val < 128 := (p 1).isLt
        show _ < 2048; omega⟩) := by
  unfold outAt k0_pay16; dsimp only
  rw [shapeCast_shapeCast]
  exact yblk_at (rowDev p) c _ _

end Cert.GemmProof

end
-- ==== Proof.Reference.lean ====
/-
# The reference, and the two programs' values side by side

The reference multiplies the whole arrays and applies the gelu to every element; over the extended reals its casts to
bf16 and back change nothing. An element of its result is the gelu of one row times one column, and the kernel's result
on device `c` is the block of those at `c`'s columns.
-/
module

public import proofs.«01_k».proof.Proof.Value
public import proofs.«01_k».proof.Proof.Gen.ReferenceIdeal
public import proofs.«01_k».proof.Proof.Gen.ReferenceIdeal.Run
public import Idealize.ShloMosaic.Lib.IdealHost
public import Idealize.ShloMosaic.Lib.Layout

@[expose] public section

set_option maxRecDepth 16384

noncomputable section

namespace Cert.GemmProof

open Idealize.ShloMosaic
open Idealize.ShloMosaic.TcCoe
open Idealize.SL Idealize.SL.Sem
open scoped BigOperators

/-- The shape of the product of the whole arrays. -/
abbrev SW : Shape := ⟨2, ![4096, 2048]⟩

/-- The product of the whole arrays. -/
def whole (X : (⟨2, ![4096, 4096]⟩ : Shape).Idx → EReal) (W : SW.Idx → EReal) : FVec Ideal SW .f32 :=
  Host.dotGeneral (F := Ideal) (φ₁ := .bf16) (φ₂ := .bf16) Cert.ReferenceIdeal.dot_S4096x4096_S4096x2048_S4096x2048_1_0_0_1_n_n none X W

/-- An element of it: one row times one column. -/
theorem whole_ix (X : (⟨2, ![4096, 4096]⟩ : Shape).Idx → EReal) (W : SW.Idx → EReal) (r : Fin 4096) (q : Fin 2048) :
    whole X W (ValueIdx.ix2 r q) = rowCol X W r q := by
  refine (Ideal.dotGeneral_apply (φ₁ := .bf16) (φ₂ := .bf16) (DotDims.plain 4096 4096 2048) none .single X W (ValueIdx.ix2 r q)).trans ?_
  refine (Ideal.matmul_constant_zero_apply (DotDims.plain 4096 4096 2048) none (φ₁ := .bf16) (φ₂ := .bf16) X W _).symm.trans
    ((Ideal.matmul_plain_apply (M := 4096) (K := 4096) (N := 2048) none X W _ r q).trans ?_)
  show Ideal.ofBits .f32 0x00000000#32 + _ = _
  rw [Ideal.ofBits_zero_f32, zero_add]
  rfl

theorem whole_at (X : (⟨2, ![4096, 4096]⟩ : Shape).Idx → EReal) (W : SW.Idx → EReal) (p : SW.Idx) :
    whole X W p = rowCol X W (p 0) (p 1) :=
  (congrArg (whole X W) (ValueIdx.eq_ix2 (n0 := 4096) (n1 := 2048) p)).trans (whole_ix X W (p 0) (p 1))

/-- The reference's gelu of an array, its operations in its own order. -/
def refGelu (y : FVec Ideal SW .f32) : FVec Ideal SW .f32 :=
  mulf (mulf (broadcastInDim SW ![] Cert.ReferenceIdeal.Gen.bcast_S_S4096x2048 (constant Cert.ReferenceIdeal.S_ .f32 0x3F000000#32)) y)
    (addf (broadcastInDim SW ![] Cert.ReferenceIdeal.Gen.bcast_S_S4096x2048 (constant Cert.ReferenceIdeal.S_ .f32 0x3F800000#32))
      (Host.tanh (mulf (broadcastInDim SW ![] Cert.ReferenceIdeal.Gen.bcast_S_S4096x2048 (constant Cert.ReferenceIdeal.S_ .f32 0x3F4C422A#32))
        (addf y (mulf (broadcastInDim SW ![] Cert.ReferenceIdeal.Gen.bcast_S_S4096x2048 (constant Cert.ReferenceIdeal.S_ .f32 0x3D372713#32))
          (mulf (mulf y y) y))))))

/-- Element by element it is the kernel's: the cube is the product of three in either order. -/
theorem refGelu_at (y : FVec Ideal SW .f32) (p : SW.Idx) : refGelu y p = gel (y p) := by
  show Ideal.ofBits .f32 0x3F000000#32 * y p * (Ideal.ofBits .f32 0x3F800000#32
      + Ideal.tanh (Ideal.ofBits .f32 0x3F4C422A#32 * (y p + Ideal.ofBits .f32 0x3D372713#32 * (y p * y p * y p)))) = _
  unfold gel
  rw [← mul_assoc, ← mul_assoc]

/-- The reference's result: the gelu of the whole product, cast down and up in between. -/
def refOut (X : (⟨2, ![4096, 4096]⟩ : Shape).Idx → EReal) (W : SW.Idx → EReal) : FVec Ideal SW .f32 :=
  refGelu (extf .f32 (truncf .bf16 (whole X W) Cert.ReferenceIdeal.Gen.bitsLt_bf16_f32) Cert.ReferenceIdeal.Gen.bitsLt_bf16_f32)

theorem refOut_at (X : (⟨2, ![4096, 4096]⟩ : Shape).Idx → EReal) (W : SW.Idx → EReal) (p : SW.Idx) :
    refOut X W p = gel (rowCol X W (p 0) (p 1)) :=
  (refGelu_at _ p).trans (congrArg gel (whole_at X W p))

/-- **The equation.** Where every device holds its block of the rows of `X` and a copy of `W`, the kernel's result on
    device `c` is the block of the reference's result at `c`'s columns. -/
theorem outAt_block {m : (ℓ : Loc Cert.KernelIdeal.nD Cert.KernelIdeal.τ Cert.KernelIdeal.sig) → Buf (Elt Ideal) ℓ}
    (X : (⟨2, ![4096, 4096]⟩ : Shape).Idx → EReal) (W : SW.Idx → EReal)
    (hX : ∀ c : Dev Cert.KernelIdeal.nD, m ((c : Thread Cert.KernelIdeal.nD Cert.KernelIdeal.τ).loc Cert.KernelIdeal.main_arg0)
      = Layout.block ⟨2, ![256, 4096]⟩ ⟨2, ![4096, 4096]⟩ 0 16 c X)
    (hW : ∀ c : Dev Cert.KernelIdeal.nD, m ((c : Thread Cert.KernelIdeal.nD Cert.KernelIdeal.τ).loc Cert.KernelIdeal.main_arg1) = W)
    (c : Dev Cert.KernelIdeal.nD) :
    outAt m c = Layout.block ⟨2, ![4096, 128]⟩ SW 1 16 c (refOut X W) := by
  funext p
  rw [outAt_at, hX, hW, Layout.block_apply, refOut_at]
  have hp0 : (p 0).val < 4096 := (p 0).isLt
  refine congrArg gel (Finset.sum_congr rfl fun k _ => congrArg₂ (· * ·) (congrArg X ?_) (congrArg W ?_))
  · funext a; apply Fin.ext
    fin_cases a
    · show (p 0).val / 256 * 256 + (p 0).val % 256 = (p 0).val
      omega
    · rfl
  · funext a; apply Fin.ext
    fin_cases a
    · rfl
    · show 128 * c.val + (p 1).val = c.val * 128 + (p 1).val
      omega

end Cert.GemmProof

end
-- ==== Proof.Same.lean ====
/-
# One text, two names

The kernel and its idealized form are printed from one text.  Their body tables are therefore the
same function of the float values, and what is shown of one holds of the other.
-/
module

public import proofs.«01_k».proof.Kernel
public import proofs.«01_k».proof.KernelIdeal
public import proofs.«01_k».proof.Proof.Gen.Kernel
public import proofs.«01_k».proof.Proof.Gen.KernelIdeal
public import Idealize.ShloMosaic.Init

@[expose] public section

namespace Cert.GemmProof

open Idealize.ShloMosaic Idealize.SL.Sem

variable {F : FTy → Type} [FloatOps F]

/-- Both tables of kernel bodies have the one body, at the one label there is. -/
theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (_, _) => rfl
  | ⟨_ + 1, h⟩, _ => exact absurd h (Nat.not_lt.2 (Nat.le_add_left _ _))

/-- So the two programs' tables, with the pipeline around the body, are the same. -/
theorem tables_same : Cert.Kernel.defs (F := F) = Cert.KernelIdeal.defs (F := F) :=
  congrArg (Pipeline.defs (Cert.KernelIdeal.pcfgs (F := F))) bodies_same

end Cert.GemmProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Reference
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.GemmProof

section Run
variable {F : FTy → Type} [FloatOps F]

/-- What the kernel's run says of one device's arrays: the result, the rows of `x`, the weights. -/
theorem arrays_after (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_v1) = outAt m c
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨((h.1 c).1 (1 : Fin 2)).trans (finalA_out m c), ((h.1 c).1 (0 : Fin 2)).trans (finalA_x m c), (h.1 c).2⟩, h.2⟩)
    (run_main m ρ)

/-- The same, of the arguments alone: they are kept, and every counter ends at zero. -/
theorem arguments_kept (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (arrays_after m ρ)

end Run

/-- The kernel over floats is the same text as the kernel over the extended reals: its frame is that run's. -/
theorem frame_kernel : Cert.quiescent_Kernel := by
  intro m ρ _
  rw [tables_same]
  exact arguments_kept (F := Bits) m ρ

/-- The same over the extended reals. -/
theorem frame_ideal : Cert.quiescent_KernelIdeal := fun m ρ _ =>
  arguments_kept (F := Ideal) m ρ

/-- The reference's run keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same function over the extended reals. -/
theorem algebraic : Cert.algebraic_KernelIdeal_ReferenceIdeal := by
  intro m ρ m' ρ' _ hargs
  refine ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans ?_, (h.1 c).2⟩) (arrays_after (F := Ideal) m ρ),
    (θ_run Cert.ReferenceIdeal.defs _ _).mono (fun _ h => h 0) (Cert.ReferenceIdeal.Value.run (F := Ideal) m' ρ')⟩
  exact outAt_block _ _ (fun c => (hargs c).1) (fun c => (hargs c).2) c

theorem claim : Cert.Claim :=
  ⟨Cert.Kernel.Gen.facts, Cert.KernelIdeal.Gen.facts, Cert.ReferenceIdeal.Gen.facts,
    frame_kernel, frame_ideal, frame_reference, trivial, algebraic⟩

end Cert.Proof

end
